-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_9) = v0 c
          ∧ r.2.mem ((c.tc : Thread Cert.ReferenceIdeal.nD Cert.ReferenceIdeal.τ).loc Cert.ReferenceIdeal.main_v10_10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v3) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  IdealRules.named_const.Statement Cert.Kernel14Ideal.κ "c1" .f32 0x3FC48605#32 ((8388608 / 5463681 : ℝ) : EReal)
  ∧ IdealRules.named_const.Statement Cert.Kernel14Ideal.κ "c2" .f32 0x42C8E6D3#32 ((268435456 / 2672307 : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "c1" .f32 0x3FC48605#32 ((8388608 / 5463681 : ℝ) : EReal)
  ∧ IdealRules.named_const.Statement Cert.Kernel15Ideal.κ "c2" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "c1" .f32 0x3FC48605#32 ((8388608 / 5463681 : ℝ) : EReal)
  ∧ IdealRules.named_const.Statement Cert.Kernel16Ideal.κ "c2" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  IdealRules.named_const.Statement Cert.Kernel17Ideal.κ "c1" .f32 0x3FC48605#32 ((8388608 / 5463681 : ℝ) : EReal)
  ∧ IdealRules.named_const.Statement Cert.Kernel17Ideal.κ "c2" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "c1" .f32 0x3FC48605#32 ((8388608 / 5463681 : ℝ) : EReal)
  ∧ IdealRules.named_const.Statement Cert.Kernel18Ideal.κ "c2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "c1" .f32 0x3FC48605#32 ((8388608 / 5463681 : ℝ) : EReal)
  ∧ IdealRules.named_const.Statement Cert.Kernel19Ideal.κ "c2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "c1" .f32 0x3FC48605#32 ((8388608 / 5463681 : ℝ) : EReal)
  ∧ IdealRules.named_const.Statement Cert.Kernel20Ideal.κ "c2" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "c1" .f32 0x3FC48605#32 ((8388608 / 5463681 : ℝ) : EReal)
  ∧ IdealRules.named_const.Statement Cert.Kernel21Ideal.κ "c2" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v48) = v0 c
          ∧ r.2.mem ((c.tc : Thread Cert.Reference22Ideal.nD Cert.Reference22Ideal.τ).loc Cert.Reference22Ideal.main_v31) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_v23) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  IdealRules.named_const.Statement Cert.Kernel23Ideal.κ "c1" .f32 0x3FC48605#32 ((8388608 / 5463681 : ℝ) : EReal)
  ∧ IdealRules.named_const.Statement Cert.Kernel23Ideal.κ "c2" .f32 0x42C8E6D3#32 ((268435456 / 2672307 : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_v0_4) = v4 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v51) = v0 c
          ∧ r.2.mem ((c.tc : Thread Cert.Reference24Ideal.nD Cert.Reference24Ideal.τ).loc Cert.Reference24Ideal.main_v57) = v1 c
          ∧ r.2.mem ((c.tc : Thread Cert.Reference24Ideal.nD Cert.Reference24Ideal.τ).loc Cert.Reference24Ideal.main_v58) = v2 c
          ∧ r.2.mem ((c.tc : Thread Cert.Reference24Ideal.nD Cert.Reference24Ideal.τ).loc Cert.Reference24Ideal.main_v56) = v3 c
          ∧ r.2.mem ((c.tc : Thread Cert.Reference24Ideal.nD Cert.Reference24Ideal.τ).loc Cert.Reference24Ideal.main_v35) = v4 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S1x4096 : Shape := ⟨2, ![1, 4096]⟩
abbrev S2048x4096 : Shape := ⟨2, ![2048, 4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  main_v18

def fn {F : FTy → Type} [FloatOps F] (main_arg0 : FVec F S1x4096 .f32) (main_arg1 : FVec F S1x4096 .f32) (main_arg2 : FVec F S2048x4096 .f32) (main_arg3 : FVec F S2048x4096 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_v13 main_v16
-- ==== Kernel.lean ====
abbrev S1x4096 : Shape := ⟨2, ![1, 4096]⟩
abbrev S2048x4096 : Shape := ⟨2, ![2048, 4096]⟩
abbrev S256x512 : Shape := ⟨2, ![256, 512]⟩
abbrev S1x512 : Shape := ⟨2, ![1, 512]⟩
abbrev S8x512 : Shape := ⟨2, ![8, 512]⟩

abbrev nBuf : Space → Nat
  | .hbm => 7
  | .vmem => 14
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S2048x4096, .f32⟩
  | .hbm, ⟨3, _⟩ => ⟨S2048x4096, .f32⟩
  | .hbm, ⟨4, _⟩ => ⟨S1x4096, .f32⟩
  | .hbm, ⟨5, _⟩ => ⟨S2048x4096, .f32⟩
  | .hbm, ⟨6, _⟩ => ⟨S2048x4096, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S8x512, .f32⟩
  | .local _ .vmem, ⟨13, _⟩ => ⟨S8x512, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_21 : BitVec 32 := 0#32
  let c32_i32 : BitVec 32 := 32#32
  let v91 : BitVec 32 := Scalar.addi c0_i32_21 c32_i32
  let c1_i32_22 : BitVec 32 := 1#32
  ⟨c0_i32_21, v91, c1_i32_22⟩
def k0_mult1 (k0_t1 : Fin k0_t1_loop.trips) : BitVec 32 :=
  let c31_i32 : BitVec 32 := 31#32
  let c0_i32_21 : BitVec 32 := 0#32
  let c1_i32_22 : BitVec 32 := 1#32
  let arg10 : BitVec 32 := Scf.iv c0_i32_21 c1_i32_22 k0_t1
  let v99 : BitVec 32 := Scalar.subi c31_i32 arg10
  let c8_i32_28 : BitVec 32 := 8#32
  let v100 : BitVec 32 := Scalar.muli v99 c8_i32_28
  v100
def k0_off1 (k0_t1 : Fin k0_t1_loop.trips) : Fin 2 → Nat :=
  let c31_i32 : BitVec 32 := 31#32
  let c0_i32_21 : BitVec 32 := 0#32
  let c1_i32_22 : BitVec 32 := 1#32
  let arg10 : BitVec 32 := Scf.iv c0_i32_21 c1_i32_22 k0_t1
  let v99 : BitVec 32 := Scalar.subi c31_i32 arg10
  let c8_i32_28 : BitVec 32 := 8#32
  let v100 : BitVec 32 := Scalar.muli v99 c8_i32_28
  let v101 : BitVec 32 := v100
  let v102 : Index := Scalar.indexCast v101
  let c0_29 : Index := 0#32
  ![v102.toNat, 0]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1x4096 : Shape := ⟨2, ![1, 4096]⟩
abbrev S2048x4096 : Shape := ⟨2, ![2048, 4096]⟩
abbrev S_ : Shape := ⟨0, ![]⟩
abbrev S4096 : Shape := ⟨1, ![4096]⟩

abbrev nBuf : Space → Nat
  | .hbm => 61
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S2048x4096, .f32⟩
  | .hbm, ⟨3, _⟩ => ⟨S2048x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S_, .i32⟩
  | .hbm, ⟨21, _⟩ => ⟨S2048x4096, .f32⟩
  | .hbm, ⟨22, _⟩ => ⟨S2048x4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .i32⟩
  | .hbm, ⟨28, _⟩ => ⟨S4096, .f32⟩
  | .hbm, ⟨29, _⟩ => ⟨S4096, .f32⟩
  | .hbm, ⟨30, _⟩ => ⟨S2048x4096, .f32⟩
  | .hbm, ⟨31, _⟩ => ⟨S2048x4096, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x4096, .f32⟩
  | .hbm, ⟨40, _⟩ => ⟨S4096, .f32⟩
  | .hbm, ⟨41, _⟩ => ⟨S_, .i32⟩
  | .hbm, ⟨42, _⟩ => ⟨S1x4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S1x4096, .f32⟩
  | .hbm, ⟨54, _⟩ => ⟨S_, .i32⟩
  | .hbm, ⟨55, _⟩ => ⟨S2048x4096, .f32⟩
  | .hbm, ⟨56, _⟩ => ⟨S1x4096, .f32⟩
  | .hbm, ⟨57, _⟩ => ⟨S_, .i32⟩
  | .hbm, ⟨58, _⟩ => ⟨S2048x4096, .f32⟩
  | .hbm, ⟨59, _⟩ => ⟨S_, .i32⟩
  | .hbm, ⟨60, _⟩ => ⟨S_, .i32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_c : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev main_v10_6 : Ref sig .tc := ⟨.hbm, 27, rfl⟩
abbrev main_v10_7 : Ref sig .tc := ⟨.hbm, 28, rfl⟩
abbrev main_v10_8 : Ref sig .tc := ⟨.hbm, 29, rfl⟩
abbrev main_v10_9 : Ref sig .tc := ⟨.hbm, 30, rfl⟩
abbrev main_v10_10 : Ref sig .tc := ⟨.hbm, 31, rfl⟩
abbrev main_while0c_c_15 : Ref sig .tc := ⟨.hbm, 32, rfl⟩
abbrev main_while0c_v11 : Ref sig .tc := ⟨.hbm, 33, rfl⟩
abbrev main_while0b_c_15 : Ref sig .tc := ⟨.hbm, 34, rfl⟩
abbrev main_while0b_v11 : Ref sig .tc := ⟨.hbm, 35, rfl⟩
abbrev main_while0b_c_16 : Ref sig .tc := ⟨.hbm, 36, rfl⟩
abbrev main_while0b_v12 : Ref sig .tc := ⟨.hbm, 37, rfl⟩
abbrev main_while0b_call0_c : Ref sig .tc := ⟨.hbm, 38, rfl⟩
abbrev main_while0b_call0_v0 : Ref sig .tc := ⟨.hbm, 39, rfl⟩
abbrev main_while0b_v13 : Ref sig .tc := ⟨.hbm, 40, rfl⟩
abbrev main_while0b_call1_c : Ref sig .tc := ⟨.hbm, 41, rfl⟩
abbrev main_while0b_call1_v0 : Ref sig .tc := ⟨.hbm, 42, rfl⟩
abbrev main_while0b_v14 : Ref sig .tc := ⟨.hbm, 43, rfl⟩
abbrev main_while0b_v15 : Ref sig .tc := ⟨.hbm, 44, rfl⟩
abbrev main_while0b_v16 : Ref sig .tc := ⟨.hbm, 45, rfl⟩
abbrev main_while0b_v17 : Ref sig .tc := ⟨.hbm, 46, rfl⟩
abbrev main_while0b_v18 : Ref sig .tc := ⟨.hbm, 47, rfl⟩
abbrev main_while0b_v19 : Ref sig .tc := ⟨.hbm, 48, rfl⟩
abbrev main_while0b_v20 : Ref sig .tc := ⟨.hbm, 49, rfl⟩
abbrev main_while0b_v21 : Ref sig .tc := ⟨.hbm, 50, rfl⟩
abbrev main_while0b_v22 : Ref sig .tc := ⟨.hbm, 51, rfl⟩
abbrev main_while0b_v23 : Ref sig .tc := ⟨.hbm, 52, rfl⟩
abbrev main_while0b_call2_v0 : Ref sig .tc := ⟨.hbm, 53, rfl⟩
abbrev main_while0b_call2_c : Ref sig .tc := ⟨.hbm, 54, rfl⟩
abbrev main_while0b_v24 : Ref sig .tc := ⟨.hbm, 55, rfl⟩
abbrev main_while0b_call3_v0 : Ref sig .tc := ⟨.hbm, 56, rfl⟩
abbrev main_while0b_call3_c : Ref sig .tc := ⟨.hbm, 57, rfl⟩
abbrev main_while0b_v25 : Ref sig .tc := ⟨.hbm, 58, rfl⟩
abbrev main_while0b_c_17 : Ref sig .tc := ⟨.hbm, 59, rfl⟩
abbrev main_while0b_v26 : Ref sig .tc := ⟨.hbm, 60, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S2048x2048 : Shape := ⟨2, ![2048, 2048]⟩
abbrev S2048x8192 : Shape := ⟨2, ![2048, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x2048, .bf16⟩
  | .hbm, ⟨4, _⟩ => ⟨S2048x8192, .bf16⟩
  | .hbm, ⟨5, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .f32⟩
  | .hbm, ⟨4, _⟩ => ⟨S8192x2048, .f32⟩
  | .hbm, ⟨5, _⟩ => ⟨S2048x8192, .f32⟩
  | .hbm, ⟨6, _⟩ => ⟨S2048x8x1024, .f32⟩
  | .hbm, ⟨7, _⟩ => ⟨S8x2048x1024, .f32⟩
  | .hbm, ⟨8, _⟩ => ⟨S8x2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S2048x1024 : Shape := ⟨2, ![2048, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x8192, .bf16⟩
  | .hbm, ⟨8, _⟩ => ⟨S2048x2048, .bf16⟩
  | .hbm, ⟨9, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1024x1024 : Shape := ⟨2, ![1024, 1024]⟩
abbrev S1x1024x1024 : Shape := ⟨3, ![1, 1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .bf16⟩
  | .hbm, ⟨4, _⟩ => ⟨S2048x8x1024, .f32⟩
  | .hbm, ⟨5, _⟩ => ⟨S8x2048x1024, .f32⟩
  | .hbm, ⟨6, _⟩ => ⟨S8x2048x1024, .bf16⟩
  | .hbm, ⟨7, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_7 : BitVec 32 := 7#32
  let v13 : BitVec 1 := Scalar.cmpi .eq arg2 c7_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .bf16⟩
  | .hbm, ⟨4, _⟩ => ⟨S8192x2048, .bf16⟩
  | .hbm, ⟨5, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x2048, .f32⟩
  | .hbm, ⟨16, _⟩ => ⟨S2048x8192, .f32⟩
  | .hbm, ⟨17, _⟩ => ⟨S2048x8192, .f32⟩
  | .hbm, ⟨18, _⟩ => ⟨S_, .f32⟩
  | .hbm, ⟨19, _⟩ => ⟨S2048x8192, .f32⟩
  | .hbm, ⟨20, _⟩ => ⟨S2048x8192, .f32⟩
  | .hbm, ⟨21, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel6.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S2048x8192, .f32⟩
  | .hbm, ⟨7, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S8192x2048, .bf16⟩
  | .hbm, ⟨8, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel8.lean ====
abbrev S2048x2048 : Shape := ⟨2, ![2048, 2048]⟩
abbrev S2048x4512 : Shape := ⟨2, ![2048, 4512]⟩
abbrev S_ : Shape := ⟨0, ![]⟩
abbrev S2048x4608 : Shape := ⟨2, ![2048, 4608]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 9
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4512, .f32⟩
  | .hbm, ⟨2, _⟩ => ⟨S2048x4512, .f32⟩
  | .hbm, ⟨3, _⟩ => ⟨S2048x2048, .bf16⟩
  | .hbm, ⟨4, _⟩ => ⟨S2048x4512, .bf16⟩
  | .hbm, ⟨5, _⟩ => ⟨S_, .i32⟩
  | .hbm, ⟨6, _⟩ => ⟨S_, .bf16⟩
  | .hbm, ⟨7, _⟩ => ⟨S2048x4608, .bf16⟩
  | .hbm, ⟨8, _⟩ => ⟨S2048x4608, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S2048x4512 : Shape := ⟨2, ![2048, 4512]⟩
abbrev S4512x2048 : Shape := ⟨2, ![4512, 2048]⟩
abbrev S_ : Shape := ⟨0, ![]⟩
abbrev S2048x4608 : Shape := ⟨2, ![2048, 4608]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4512, .f32⟩
  | .hbm, ⟨2, _⟩ => ⟨S2048x4512, .f32⟩
  | .hbm, ⟨3, _⟩ => ⟨S2048x4512, .f32⟩
  | .hbm, ⟨4, _⟩ => ⟨S4512x2048, .f32⟩
  | .hbm, ⟨5, _⟩ => ⟨S2048x4512, .f32⟩
  | .hbm, ⟨6, _⟩ => ⟨S2048x4512, .bf16⟩
  | .hbm, ⟨7, _⟩ => ⟨S_, .i32⟩
  | .hbm, ⟨8, _⟩ => ⟨S_, .bf16⟩
  | .hbm, ⟨9, _⟩ => ⟨S2048x4608, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel9.lean ====
abbrev S2048x2048 : Shape := ⟨2, ![2048, 2048]⟩
abbrev S2048x4512 : Shape := ⟨2, ![2048, 4512]⟩
abbrev S_ : Shape := ⟨0, ![]⟩
abbrev S2048x4608 : Shape := ⟨2, ![2048, 4608]⟩
abbrev S1024x1536 : Shape := ⟨2, ![1024, 1536]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4512, .f32⟩
  | .hbm, ⟨2, _⟩ => ⟨S2048x4512, .f32⟩
  | .hbm, ⟨3, _⟩ => ⟨S2048x4512, .bf16⟩
  | .hbm, ⟨4, _⟩ => ⟨S_, .i32⟩
  | .hbm, ⟨5, _⟩ => ⟨S_, .bf16⟩
  | .hbm, ⟨6, _⟩ => ⟨S2048x4608, .bf16⟩
  | .hbm, ⟨7, _⟩ => ⟨S2048x4512, .bf16⟩
  | .hbm, ⟨8, _⟩ => ⟨S_, .i32⟩
  | .hbm, ⟨9, _⟩ => ⟨S_, .bf16⟩
  | .hbm, ⟨10, _⟩ => ⟨S2048x4608, .bf16⟩
  | .hbm, ⟨11, _⟩ => ⟨S2048x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S2048x4512 : Shape := ⟨2, ![2048, 4512]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4512, .f32⟩
  | .hbm, ⟨2, _⟩ => ⟨S2048x4512, .f32⟩
  | .hbm, ⟨3, _⟩ => ⟨S2048x4512, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S2048x2048 : Shape := ⟨2, ![2048, 2048]⟩
abbrev S2048x4512 : Shape := ⟨2, ![2048, 4512]⟩
abbrev S_ : Shape := ⟨0, ![]⟩
abbrev S2048x4608 : Shape := ⟨2, ![2048, 4608]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4512, .f32⟩
  | .hbm, ⟨2, _⟩ => ⟨S2048x2048, .bf16⟩
  | .hbm, ⟨3, _⟩ => ⟨S2048x4512, .bf16⟩
  | .hbm, ⟨4, _⟩ => ⟨S_, .i32⟩
  | .hbm, ⟨5, _⟩ => ⟨S_, .bf16⟩
  | .hbm, ⟨6, _⟩ => ⟨S2048x4608, .bf16⟩
  | .hbm, ⟨7, _⟩ => ⟨S2048x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x4512 : Shape := ⟨2, ![2048, 4512]⟩
abbrev S_ : Shape := ⟨0, ![]⟩
abbrev S2048x4608 : Shape := ⟨2, ![2048, 4608]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4512, .f32⟩
  | .hbm, ⟨2, _⟩ => ⟨S2048x4512, .f32⟩
  | .hbm, ⟨3, _⟩ => ⟨S_, .i32⟩
  | .hbm, ⟨4, _⟩ => ⟨S_, .f32⟩
  | .hbm, ⟨5, _⟩ => ⟨S2048x4608, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel11.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S4x2048x564 : Shape := ⟨3, ![4, 2048, 564]⟩
abbrev S2048x564 : Shape := ⟨2, ![2048, 564]⟩
abbrev S4x512x564 : Shape := ⟨3, ![4, 512, 564]⟩
abbrev S512x564 : Shape := ⟨2, ![512, 564]⟩
abbrev S1x512x564 : Shape := ⟨3, ![1, 512, 564]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x564, .bf16⟩
  | .hbm, ⟨1, _⟩ => ⟨S2048x564, .f32⟩
  | .hbm, ⟨2, _⟩ => ⟨S2048x564, .f32⟩
  | .hbm, ⟨3, _⟩ => ⟨S2048x564, .f32⟩
  | .hbm, ⟨4, _⟩ => ⟨S2048x564, .f32⟩
  | .hbm, ⟨5, _⟩ => ⟨S2048x564, .f32⟩
  | .hbm, ⟨6, _⟩ => ⟨S2048x564, .f32⟩
  | .hbm, ⟨7, _⟩ => ⟨S2048x564, .f32⟩
  | .local _ .vmem, ⟨0, _⟩ => ⟨S4x512x564, .bf16⟩
  | .local _ .vmem, ⟨1, _⟩ => ⟨S4x512x564, .bf16⟩
  | .local _ .vmem, ⟨2, _⟩ => ⟨S512x564, .f32⟩
  | .local _ .vmem, ⟨3, _⟩ => ⟨S512x564, .f32⟩
  | .local _ .vmem, ⟨4, _⟩ => ⟨S512x564, .f32⟩
  | .local _ .vmem, ⟨5, _⟩ => ⟨S512x564, .f32⟩
  | .local _ .vmem, ⟨6, _⟩ => ⟨S512x564, .f32⟩
  | .local _ .vmem, ⟨7, _⟩ => ⟨S512x564, .f32⟩
  | .local _ .vmem, ⟨8, _⟩ => ⟨S512x564, .f32⟩
  | .local _ .vmem, ⟨9, _⟩ => ⟨S512x564, .f32⟩
  | .local _ .vmem, ⟨10, _⟩ => ⟨S512x564, .f32⟩
  | .local _ .vmem, ⟨11, _⟩ => ⟨S512x564, .f32⟩
  | .local _ .vmem, ⟨12, _⟩ => ⟨S512x564, .f32⟩
  | .local _ .vmem, ⟨13, _⟩ => ⟨S512x564, .f32⟩
  | .local _ .vmem, ⟨14, _⟩ => ⟨S512x564, .f32⟩
  | .local _ .vmem, ⟨15, _⟩ => ⟨S512x564, .f32⟩
  | _, _ => ⟨S4x2048x564, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x564 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x564 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x564 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x564 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x564 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x564 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x564 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x564 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel14Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference14Ideal.lean ====
abbrev S4x2048x564 : Shape := ⟨3, ![4, 2048, 564]⟩
abbrev S2048x564 : Shape := ⟨2, ![2048, 564]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x564, .bf16⟩
  | .hbm, ⟨1, _⟩ => ⟨S2048x564, .f32⟩
  | .hbm, ⟨2, _⟩ => ⟨S2048x564, .f32⟩
  | .hbm, ⟨3, _⟩ => ⟨S2048x564, .f32⟩
  | .hbm, ⟨4, _⟩ => ⟨S4x2048x564, .f32⟩
  | .hbm, ⟨5, _⟩ => ⟨S_, .f32⟩
  | .hbm, ⟨6, _⟩ => ⟨S2048x564, .f32⟩
  | .hbm, ⟨7, _⟩ => ⟨S_, .f32⟩
  | .hbm, ⟨8, _⟩ => ⟨S2048x564, .f32⟩
  | .hbm, ⟨9, _⟩ => ⟨S2048x564, .f32⟩
  | .hbm, ⟨10, _⟩ => ⟨S_, .f32⟩
  | .hbm, ⟨11, _⟩ => ⟨S2048x564, .f32⟩
  | .hbm, ⟨12, _⟩ => ⟨S2048x564, .f32⟩
  | .hbm, ⟨13, _⟩ => ⟨S2048x564, .f32⟩
  | .hbm, ⟨14, _⟩ => ⟨S_, .f32⟩
  | .hbm, ⟨15, _⟩ => ⟨S2048x564, .f32⟩
  | .hbm, ⟨16, _⟩ => ⟨S2048x564, .f32⟩
  | .hbm, ⟨17, _⟩ => ⟨S2048x564, .f32⟩
  | .hbm, ⟨18, _⟩ => ⟨S_, .f32⟩
  | .hbm, ⟨19, _⟩ => ⟨S2048x564, .f32⟩
  | .hbm, ⟨20, _⟩ => ⟨S2048x564, .f32⟩
  | .hbm, ⟨21, _⟩ => ⟨S2048x564, .f32⟩
  | .hbm, ⟨22, _⟩ => ⟨S_, .f32⟩
  | .hbm, ⟨23, _⟩ => ⟨S2048x564, .f32⟩
  | .hbm, ⟨24, _⟩ => ⟨S2048x564, .f32⟩
  | .hbm, ⟨25, _⟩ => ⟨S_, .f32⟩
  | .hbm, ⟨26, _⟩ => ⟨S2048x564, .f32⟩
  | .hbm, ⟨27, _⟩ => ⟨S2048x564, .f32⟩
  | .hbm, ⟨28, _⟩ => ⟨S2048x564, .f32⟩
  | .hbm, ⟨29, _⟩ => ⟨S_, .f32⟩
  | .hbm, ⟨30, _⟩ => ⟨S2048x564, .f32⟩
  | .hbm, ⟨31, _⟩ => ⟨S2048x564, .f32⟩
  | .hbm, ⟨32, _⟩ => ⟨S2048x564, .f32⟩
  | .hbm, ⟨33, _⟩ => ⟨S_, .f32⟩
  | .hbm, ⟨34, _⟩ => ⟨S2048x564, .f32⟩
  | .hbm, ⟨35, _⟩ => ⟨S2048x564, .f32⟩
  | .hbm, ⟨36, _⟩ => ⟨S2048x564, .f32⟩
  | .hbm, ⟨37, _⟩ => ⟨S_, .f32⟩
  | .hbm, ⟨38, _⟩ => ⟨S2048x564, .f32⟩
  | .hbm, ⟨39, _⟩ => ⟨S2048x564, .f32⟩
  | _, _ => ⟨S4x2048x564, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S4x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel15Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference15Ideal.lean ====
abbrev S4x256x2048 : Shape := ⟨3, ![4, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S4x2048x1024 : Shape := ⟨3, ![4, 2048, 1024]⟩
abbrev S2048x1024 : Shape := ⟨2, ![2048, 1024]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel16Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference16Ideal.lean ====
abbrev S4x2048x1024 : Shape := ⟨3, ![4, 2048, 1024]⟩
abbrev S2048x1024 : Shape := ⟨2, ![2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S4x2048x1024, .f32⟩
  | .hbm, ⟨5, _⟩ => ⟨S_, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S4x1024x2048 : Shape := ⟨3, ![4, 1024, 2048]⟩
abbrev S1024x2048 : Shape := ⟨2, ![1024, 2048]⟩
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S4x256x2048, .bf16⟩
  | .local _ .vmem, ⟨1, _⟩ => ⟨S4x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel17Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference17Ideal.lean ====
abbrev S4x1024x2048 : Shape := ⟨3, ![4, 1024, 2048]⟩
abbrev S1024x2048 : Shape := ⟨2, ![1024, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S4x1024x2048, .f32⟩
  | .hbm, ⟨5, _⟩ => ⟨S_, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel18Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference18Ideal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S1x2048x1536 : Shape := ⟨3, ![1, 2048, 1536]⟩
abbrev S2048x1536 : Shape := ⟨2, ![2048, 1536]⟩
abbrev S1x256x1536 : Shape := ⟨3, ![1, 256, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel19Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference19Ideal.lean ====
abbrev S1x2048x1536 : Shape := ⟨3, ![1, 2048, 1536]⟩
abbrev S2048x1536 : Shape := ⟨2, ![2048, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S_, .f32⟩
  | .hbm, ⟨7, _⟩ => ⟨S2048x1536, .f32⟩
  | .hbm, ⟨8, _⟩ => ⟨S2048x1536, .f32⟩
  | .hbm, ⟨9, _⟩ => ⟨S_, .f32⟩
  | .hbm, ⟨10, _⟩ => ⟨S2048x1536, .f32⟩
  | .hbm, ⟨11, _⟩ => ⟨S2048x1536, .f32⟩
  | .hbm, ⟨12, _⟩ => ⟨S2048x1536, .f32⟩
  | .hbm, ⟨13, _⟩ => ⟨S_, .f32⟩
  | .hbm, ⟨14, _⟩ => ⟨S2048x1536, .f32⟩
  | .hbm, ⟨15, _⟩ => ⟨S2048x1536, .f32⟩
  | .hbm, ⟨16, _⟩ => ⟨S2048x1536, .f32⟩
  | .hbm, ⟨17, _⟩ => ⟨S_, .f32⟩
  | .hbm, ⟨18, _⟩ => ⟨S2048x1536, .f32⟩
  | .hbm, ⟨19, _⟩ => ⟨S2048x1536, .f32⟩
  | .hbm, ⟨20, _⟩ => ⟨S2048x1536, .f32⟩
  | .hbm, ⟨21, _⟩ => ⟨S_, .f32⟩
  | .hbm, ⟨22, _⟩ => ⟨S2048x1536, .f32⟩
  | .hbm, ⟨23, _⟩ => ⟨S2048x1536, .f32⟩
  | .hbm, ⟨24, _⟩ => ⟨S_, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S_, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S_, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S_, .f32⟩
  | .hbm, ⟨37, _⟩ => ⟨S2048x1536, .f32⟩
  | .hbm, ⟨38, _⟩ => ⟨S2048x1536, .f32⟩
  | _, _ => ⟨S1x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S4x432x128 : Shape := ⟨3, ![4, 432, 128]⟩
abbrev S432x128 : Shape := ⟨2, ![432, 128]⟩
abbrev S1x432x128 : Shape := ⟨3, ![1, 432, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x432x128, .f32⟩
  | .hbm, ⟨1, _⟩ => ⟨S432x128, .f32⟩
  | .hbm, ⟨2, _⟩ => ⟨S432x128, .f32⟩
  | .hbm, ⟨3, _⟩ => ⟨S432x128, .f32⟩
  | .hbm, ⟨4, _⟩ => ⟨S432x128, .f32⟩
  | .hbm, ⟨5, _⟩ => ⟨S432x128, .f32⟩
  | .hbm, ⟨6, _⟩ => ⟨S432x128, .f32⟩
  | .hbm, ⟨7, _⟩ => ⟨S432x128, .f32⟩
  | .local _ .vmem, ⟨0, _⟩ => ⟨S4x432x128, .f32⟩
  | .local _ .vmem, ⟨1, _⟩ => ⟨S432x128, .f32⟩
  | .local _ .vmem, ⟨2, _⟩ => ⟨S432x128, .f32⟩
  | .local _ .vmem, ⟨3, _⟩ => ⟨S432x128, .f32⟩
  | .local _ .vmem, ⟨4, _⟩ => ⟨S432x128, .f32⟩
  | .local _ .vmem, ⟨5, _⟩ => ⟨S432x128, .f32⟩
  | .local _ .vmem, ⟨6, _⟩ => ⟨S432x128, .f32⟩
  | .local _ .vmem, ⟨7, _⟩ => ⟨S432x128, .f32⟩
  | _, _ => ⟨S4x432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x432x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S432x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S432x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S432x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S432x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S432x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S432x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S432x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel20Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference20Ideal.lean ====
abbrev S4x432x128 : Shape := ⟨3, ![4, 432, 128]⟩
abbrev S432x128 : Shape := ⟨2, ![432, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x432x128, .f32⟩
  | .hbm, ⟨1, _⟩ => ⟨S432x128, .f32⟩
  | .hbm, ⟨2, _⟩ => ⟨S432x128, .f32⟩
  | .hbm, ⟨3, _⟩ => ⟨S432x128, .f32⟩
  | .hbm, ⟨4, _⟩ => ⟨S_, .f32⟩
  | .hbm, ⟨5, _⟩ => ⟨S432x128, .f32⟩
  | .hbm, ⟨6, _⟩ => ⟨S_, .f32⟩
  | .hbm, ⟨7, _⟩ => ⟨S432x128, .f32⟩
  | .hbm, ⟨8, _⟩ => ⟨S432x128, .f32⟩
  | .hbm, ⟨9, _⟩ => ⟨S_, .f32⟩
  | .hbm, ⟨10, _⟩ => ⟨S432x128, .f32⟩
  | .hbm, ⟨11, _⟩ => ⟨S432x128, .f32⟩
  | .hbm, ⟨12, _⟩ => ⟨S432x128, .f32⟩
  | .hbm, ⟨13, _⟩ => ⟨S_, .f32⟩
  | .hbm, ⟨14, _⟩ => ⟨S432x128, .f32⟩
  | .hbm, ⟨15, _⟩ => ⟨S432x128, .f32⟩
  | .hbm, ⟨16, _⟩ => ⟨S432x128, .f32⟩
  | .hbm, ⟨17, _⟩ => ⟨S_, .f32⟩
  | .hbm, ⟨18, _⟩ => ⟨S432x128, .f32⟩
  | .hbm, ⟨19, _⟩ => ⟨S432x128, .f32⟩
  | .hbm, ⟨20, _⟩ => ⟨S432x128, .f32⟩
  | .hbm, ⟨21, _⟩ => ⟨S_, .f32⟩
  | .hbm, ⟨22, _⟩ => ⟨S432x128, .f32⟩
  | .hbm, ⟨23, _⟩ => ⟨S432x128, .f32⟩
  | .hbm, ⟨24, _⟩ => ⟨S_, .f32⟩
  | .hbm, ⟨25, _⟩ => ⟨S432x128, .f32⟩
  | .hbm, ⟨26, _⟩ => ⟨S432x128, .f32⟩
  | .hbm, ⟨27, _⟩ => ⟨S432x128, .f32⟩
  | .hbm, ⟨28, _⟩ => ⟨S_, .f32⟩
  | .hbm, ⟨29, _⟩ => ⟨S432x128, .f32⟩
  | .hbm, ⟨30, _⟩ => ⟨S432x128, .f32⟩
  | .hbm, ⟨31, _⟩ => ⟨S432x128, .f32⟩
  | .hbm, ⟨32, _⟩ => ⟨S_, .f32⟩
  | .hbm, ⟨33, _⟩ => ⟨S432x128, .f32⟩
  | .hbm, ⟨34, _⟩ => ⟨S432x128, .f32⟩
  | .hbm, ⟨35, _⟩ => ⟨S432x128, .f32⟩
  | .hbm, ⟨36, _⟩ => ⟨S_, .f32⟩
  | .hbm, ⟨37, _⟩ => ⟨S432x128, .f32⟩
  | .hbm, ⟨38, _⟩ => ⟨S432x128, .f32⟩
  | _, _ => ⟨S4x432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S8x2440x128 : Shape := ⟨3, ![8, 2440, 128]⟩
abbrev S2440x128 : Shape := ⟨2, ![2440, 128]⟩
abbrev S1x2440x128 : Shape := ⟨3, ![1, 2440, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x2440x128, .f32⟩
  | .hbm, ⟨1, _⟩ => ⟨S2440x128, .f32⟩
  | .hbm, ⟨2, _⟩ => ⟨S2440x128, .f32⟩
  | .hbm, ⟨3, _⟩ => ⟨S2440x128, .f32⟩
  | .hbm, ⟨4, _⟩ => ⟨S2440x128, .f32⟩
  | .hbm, ⟨5, _⟩ => ⟨S2440x128, .f32⟩
  | .hbm, ⟨6, _⟩ => ⟨S2440x128, .f32⟩
  | .hbm, ⟨7, _⟩ => ⟨S2440x128, .f32⟩
  | .local _ .vmem, ⟨0, _⟩ => ⟨S8x2440x128, .f32⟩
  | .local _ .vmem, ⟨1, _⟩ => ⟨S2440x128, .f32⟩
  | .local _ .vmem, ⟨2, _⟩ => ⟨S2440x128, .f32⟩
  | .local _ .vmem, ⟨3, _⟩ => ⟨S2440x128, .f32⟩
  | .local _ .vmem, ⟨4, _⟩ => ⟨S2440x128, .f32⟩
  | .local _ .vmem, ⟨5, _⟩ => ⟨S2440x128, .f32⟩
  | .local _ .vmem, ⟨6, _⟩ => ⟨S2440x128, .f32⟩
  | .local _ .vmem, ⟨7, _⟩ => ⟨S2440x128, .f32⟩
  | _, _ => ⟨S8x2440x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2440x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2440x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2440x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2440x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2440x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2440x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2440x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2440x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel21Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference21Ideal.lean ====
abbrev S8x2440x128 : Shape := ⟨3, ![8, 2440, 128]⟩
abbrev S2440x128 : Shape := ⟨2, ![2440, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2440x128, .f32⟩
  | .hbm, ⟨1, _⟩ => ⟨S2440x128, .f32⟩
  | .hbm, ⟨2, _⟩ => ⟨S2440x128, .f32⟩
  | .hbm, ⟨3, _⟩ => ⟨S2440x128, .f32⟩
  | .hbm, ⟨4, _⟩ => ⟨S_, .f32⟩
  | .hbm, ⟨5, _⟩ => ⟨S2440x128, .f32⟩
  | .hbm, ⟨6, _⟩ => ⟨S_, .f32⟩
  | .hbm, ⟨7, _⟩ => ⟨S2440x128, .f32⟩
  | .hbm, ⟨8, _⟩ => ⟨S2440x128, .f32⟩
  | .hbm, ⟨9, _⟩ => ⟨S_, .f32⟩
  | .hbm, ⟨10, _⟩ => ⟨S2440x128, .f32⟩
  | .hbm, ⟨11, _⟩ => ⟨S2440x128, .f32⟩
  | .hbm, ⟨12, _⟩ => ⟨S2440x128, .f32⟩
  | .hbm, ⟨13, _⟩ => ⟨S_, .f32⟩
  | .hbm, ⟨14, _⟩ => ⟨S2440x128, .f32⟩
  | .hbm, ⟨15, _⟩ => ⟨S2440x128, .f32⟩
  | .hbm, ⟨16, _⟩ => ⟨S2440x128, .f32⟩
  | .hbm, ⟨17, _⟩ => ⟨S_, .f32⟩
  | .hbm, ⟨18, _⟩ => ⟨S2440x128, .f32⟩
  | .hbm, ⟨19, _⟩ => ⟨S2440x128, .f32⟩
  | .hbm, ⟨20, _⟩ => ⟨S2440x128, .f32⟩
  | .hbm, ⟨21, _⟩ => ⟨S_, .f32⟩
  | .hbm, ⟨22, _⟩ => ⟨S2440x128, .f32⟩
  | .hbm, ⟨23, _⟩ => ⟨S2440x128, .f32⟩
  | .hbm, ⟨24, _⟩ => ⟨S_, .f32⟩
  | .hbm, ⟨25, _⟩ => ⟨S2440x128, .f32⟩
  | .hbm, ⟨26, _⟩ => ⟨S2440x128, .f32⟩
  | .hbm, ⟨27, _⟩ => ⟨S2440x128, .f32⟩
  | .hbm, ⟨28, _⟩ => ⟨S_, .f32⟩
  | .hbm, ⟨29, _⟩ => ⟨S2440x128, .f32⟩
  | .hbm, ⟨30, _⟩ => ⟨S2440x128, .f32⟩
  | .hbm, ⟨31, _⟩ => ⟨S2440x128, .f32⟩
  | .hbm, ⟨32, _⟩ => ⟨S_, .f32⟩
  | .hbm, ⟨33, _⟩ => ⟨S2440x128, .f32⟩
  | .hbm, ⟨34, _⟩ => ⟨S2440x128, .f32⟩
  | .hbm, ⟨35, _⟩ => ⟨S2440x128, .f32⟩
  | .hbm, ⟨36, _⟩ => ⟨S_, .f32⟩
  | .hbm, ⟨37, _⟩ => ⟨S2440x128, .f32⟩
  | .hbm, ⟨38, _⟩ => ⟨S2440x128, .f32⟩
  | _, _ => ⟨S8x2440x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference22Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x2048, .f32⟩
  | .hbm, ⟨53, _⟩ => ⟨S2048x2048, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel23.lean ====
abbrev S512x8x128 : Shape := ⟨3, ![512, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S512x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S512x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S512x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel23Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference23Ideal.lean ====
abbrev S512x8x128 : Shape := ⟨3, ![512, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S512x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S8x128, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x128, .f32⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference24Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x2048, .f32⟩
  | .hbm, ⟨61, _⟩ => ⟨S2048x2048, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S2048x2048, .bf16⟩
  | .hbm, ⟨80, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Proof.UpWeight.lean ====
/- The first product's gradient in its weights: what the kernel leaves is the reference's, slot by slot. -/
module

public import proofs.«01_k».proof.Proof.Gen.Kernel2Ideal.Value
public import proofs.«01_k».proof.Proof.Gen.Reference2Ideal.Run
public import proofs.«01_k».proof.Proof.Gen.Reference2Ideal.Read
public import proofs.«01_k».proof.Defs
public import Idealize.ShloMosaic.Lib.Pipeline.ValueKit
public import Idealize.ShloMosaic.Lib.Pointwise
public import Idealize.ShloMosaic.Lib.StableHlo.ReadAt
public import Idealize.ShloMosaic.Lib.Quiescent

@[expose] public section

set_option maxRecDepth 16384

noncomputable section

namespace Cert.UpWeight

open Idealize.ShloMosaic Idealize.ShloMosaic.TcCoe Idealize.SL.Sem
open Cert.Kernel2Ideal Cert.Kernel2Ideal.Gen Cert.Kernel2Ideal.Value

/-- The gradient: entry `(s, i, j)` is the sum over the rows of the input's column `i` times the hidden gradient's column `s * 1024 + j`. -/
def product (x : FVec Ideal S2048x2048 .f32) (g : FVec Ideal S2048x8192 .f32) : FVec Ideal S8x2048x1024 .bf16 := fun y =>
  ∑ k : Fin 2048, (x (ix2 k (y 1)) : EReal) * g (ix2 k ⟨(y 0).val * 1024 + (y 2).val, by idx_bounds_all; omega⟩)

variable (m : (ℓ : Loc nD τ sig) → Buf (Elt Ideal) ℓ) (ρ : Dev nD → PrngReg) (c : Dev nD)

/-- The arguments: the normed input and the gradient of the hidden layer. -/
abbrev input : FVec Ideal S2048x2048 .f32 := m ((c : Thread nD τ).loc main_arg0)
abbrev hidden : FVec Ideal S2048x8192 .f32 := m ((c : Thread nD τ).loc main_arg2)

/-- Where the blocks of point `t` lie. -/
theorem index_eq : ∀ t : Fin cfg0.N, win0_0.index t = ![0, t.val / 8] ∧ win0_1.index t = ![0, t.val % 8]
    ∧ win0_2.index t = ![t.val % 8, t.val / 8, 0] := by decide +kernel

theorem points_lt (t : Fin cfg0.N) : t.val < 16 := lt_of_lt_of_eq t.isLt (show cfg0.N = 16 from N_0)

theorem entry0 (i : S2048x2048.Idx) : (V m c main_v0 : FVec Ideal S2048x2048 .bf16) i = input m c i := by
  unfold V hostOps0
  after_reads_at

theorem entry1 (i : S2048x8192.Idx) : (V m c main_v1 : FVec Ideal S2048x8192 .bf16) i = hidden m c i := by
  unfold V hostOps0
  after_reads_at

theorem final : (dats m 0 c).arrAt 2 cfg0.N = product (input m c) (hidden m c) := by
  refine (dats m 0 c).arrAt_eq_of_covers 2 _ (by decide +kernel) fun t hf y => ?_
  have h := index_eq t
  blk_simp
  rw [after0_2]
  unfold outsAt0
  frame_out
  have e0 : ∀ k r, iblk m c 0 t (ix2 k r) = V m c main_v0 (ix2 k ⟨t.val / 8 * 1024 + r.val, by have := points_lt t; omega⟩) :=
    fun k r => by blk_ext [iblk, h]
  have e1 : ∀ k l, iblk m c 1 t (ix2 k l) = V m c main_v1 (ix2 k ⟨t.val % 8 * 1024 + l.val, by omega⟩) :=
    fun k l => by blk_ext [iblk, h]
  idx_vars y
  unfold_payloads
  pointwise
  have hj : ((View.whole main_v2).slice (win0_2.rect t)).emb (ix3 y0 y1 y2)
      = ix3 ⟨t.val % 8, by omega⟩ ⟨t.val / 8 * 1024 + y1.val, by have := points_lt t; omega⟩ y2 := by blk_ext [h]
  rw [hj]
  exact Fin.sum_fin_congr fun k => congrArg₂ (· * ·) ((e0 k y1).trans (entry0 m c _)) ((e1 k y2).trans (entry1 m c _))

/-- The reference's lines compute the same product. -/
theorem reference_eq (x : FVec Ideal S2048x2048 .f32) (g : FVec Ideal S2048x8192 .f32) :
    Cert.Reference2Ideal.Read.val_main_v5 (F := Ideal) x g = product x g := by
  funext y
  idx_vars y
  unfold product Cert.Reference2Ideal.Read.val_main_v5 Cert.Reference2Ideal.Read.val_main_v4 Cert.Reference2Ideal.Read.val_main_v3 Cert.Reference2Ideal.Read.val_main_v2 Cert.Reference2Ideal.Read.val_main_v1
  pointwise
  exact Finset.sum_congr rfl fun k _ => mul_comm _ _

/-- The reference leaves its arguments and has no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result is the reference's. -/
theorem values : Cert.algebraic_Kernel2Ideal_Reference2Ideal := by
  intro m ρ m' ρ' _ hagree
  refine ⟨fun c => product (input m c) (hidden m c),
    (θ_run _ _ _).mono (fun r h c => ⟨(h c).1.trans (final m c), (h c).2⟩) (run_blocks m ρ),
    (θ_run _ _ _).mono (fun r h c => ⟨(h c).1.trans ?_, (h c).2⟩) (Cert.Reference2Ideal.Value.run (F := Ideal) m' ρ')⟩
  rw [(hagree c).1, (hagree c).2.2]
  exact reference_eq _ _

end Cert.UpWeight

end
-- ==== Proof.DownWeight.lean ====
/- The second product's gradient in its weights: what the kernel leaves is the reference's. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.StableHlo.ReadAt
public import Idealize.ShloMosaic.Lib.Quiescent

@[expose] public section

set_option maxRecDepth 16384

noncomputable section

namespace Cert.DownWeight

open Idealize.ShloMosaic Idealize.ShloMosaic.TcCoe Idealize.SL.Sem
open Cert.Kernel3Ideal Cert.Kernel3Ideal.Gen Cert.Kernel3Ideal.Value

/-- The gradient: entry `(i, j)` is the sum over the rows of the squared rectified column `i` times the incoming gradient's column `j`. -/
def product (a : FVec Ideal S2048x8192 .f32) (g : FVec Ideal S2048x2048 .f32) : FVec Ideal S8192x2048 .bf16 := fun y =>
  ∑ k : Fin 2048, (max (a (ix2 k (y 0)) : EReal) 0 * max (a (ix2 k (y 0)) : EReal) 0) * g (ix2 k (y 1))

variable (m : (ℓ : Loc nD τ sig) → Buf (Elt Ideal) ℓ) (ρ : Dev nD → PrngReg) (c : Dev nD)

/-- The arguments: the hidden layer before the rectifier, and the incoming gradient. -/
abbrev hidden : FVec Ideal S2048x8192 .f32 := m ((c : Thread nD τ).loc main_arg0)
abbrev incoming : FVec Ideal S2048x2048 .f32 := m ((c : Thread nD τ).loc main_arg2)

/-- Where the blocks of point `t` lie. -/
theorem index_eq : ∀ t : Fin cfg0.N, win0_0.index t = ![0, t.val / 2] ∧ win0_1.index t = ![0, t.val % 2]
    ∧ win0_2.index t = ![t.val / 2, t.val % 2] := by decide +kernel

theorem points_lt (t : Fin cfg0.N) : t.val < 16 := lt_of_lt_of_eq t.isLt (show cfg0.N = 16 from N_0)

theorem entry0 (i : S2048x8192.Idx) : (V m c main_v2 : FVec Ideal S2048x8192 .bf16) i
    = max (hidden m c i : EReal) 0 * max (hidden m c i : EReal) 0 := by
  unfold V
  after_reads_at

theorem entry1 (i : S2048x2048.Idx) : (V m c main_v3 : FVec Ideal S2048x2048 .bf16) i = incoming m c i := by
  unfold V
  after_reads_at

theorem final : (dats m 0 c).arrAt 2 cfg0.N = product (hidden m c) (incoming m c) := by
  refine (dats m 0 c).arrAt_eq_of_covers 2 _ (by decide +kernel) fun t hf y => ?_
  have h := index_eq t
  have ht := points_lt t
  blk_simp
  rw [after0_2]
  unfold outsAt0
  frame_out
  have e0 : ∀ k r, iblk m c 0 t (ix2 k r) = V m c main_v2 (ix2 k ⟨t.val / 2 * 1024 + r.val, by omega⟩) :=
    fun k r => by blk_ext [iblk, h]
  have e1 : ∀ k l, iblk m c 1 t (ix2 k l) = V m c main_v3 (ix2 k ⟨t.val % 2 * 1024 + l.val, by omega⟩) :=
    fun k l => by blk_ext [iblk, h]
  idx_vars y
  unfold_payloads
  pointwise
  have hj : ((View.whole main_v4).slice (win0_2.rect t)).emb (ix2 y0 y1)
      = ix2 ⟨t.val / 2 * 1024 + y0.val, by omega⟩ ⟨t.val % 2 * 1024 + y1.val, by omega⟩ := by blk_ext [h]
  rw [hj]
  exact Fin.sum_fin_congr fun k => congrArg₂ (· * ·) ((e0 k y0).trans (entry0 m c _)) ((e1 k y1).trans (entry1 m c _))

/-- The reference's lines compute the same product. -/
theorem reference_eq (a : FVec Ideal S2048x8192 .f32) (g : FVec Ideal S2048x2048 .f32) :
    Cert.Reference3Ideal.Read.val_main_v5 (F := Ideal) a g = product a g := by
  funext y
  idx_vars y
  unfold product Cert.Reference3Ideal.Read.val_main_v5 Cert.Reference3Ideal.Read.val_main_v4 Cert.Reference3Ideal.Read.val_main_v3
    Cert.Reference3Ideal.Read.val_main_v1 Cert.Reference3Ideal.Read.val_main_v0 Cert.Reference3Ideal.Read.val_main_call0_v0
    Cert.Reference3Ideal.Read.val_main_call0_cst
  pointwise
  exact Finset.sum_congr rfl fun k _ => mul_comm _ _

/-- The reference leaves its arguments and has no semaphore. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result is the reference's. -/
theorem values : Cert.algebraic_Kernel3Ideal_Reference3Ideal := by
  intro m ρ m' ρ' _ hagree
  refine ⟨fun c => product (hidden m c) (incoming m c),
    (θ_run _ _ _).mono (fun r h c => ⟨(h c).1.trans (final m c), (h c).2⟩) (run_blocks m ρ),
    (θ_run _ _ _).mono (fun r h c => ⟨(h c).1.trans ?_, (h c).2⟩) (Cert.Reference3Ideal.Value.run (F := Ideal) m' ρ')⟩
  rw [(hagree c).1, (hagree c).2.2]
  exact reference_eq _ _

end Cert.DownWeight

end
-- ==== Proof.UpInput.lean ====
/- The first product's gradient in its input: what the kernel accumulates over eight points is the reference's. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.StableHlo.ReadAt
public import Idealize.ShloMosaic.Lib.Pipeline.ReadBack
public import Idealize.ShloMosaic.Lib.Quiescent

@[expose] public section

set_option maxRecDepth 16384

noncomputable section

namespace Cert.UpInput

open Idealize.ShloMosaic Idealize.ShloMosaic.TcCoe Idealize.SL.Sem
open Cert.Kernel4Ideal Cert.Kernel4Ideal.Gen Cert.Kernel4Ideal.Value

/-- The gradient: entry `(i, j)` is the sum over the hidden layer of the hidden gradient's row `i` times the weights' row `j`. -/
def product (g w : FVec Ideal S2048x8192 .f32) : FVec Ideal S2048x2048 .f32 := fun y =>
  ∑ k : Fin 8192, (g (ix2 (y 0) k) : EReal) * w (ix2 (y 1) k)

variable (m : (ℓ : Loc nD τ sig) → Buf (Elt Ideal) ℓ) (ρ : Dev nD → PrngReg) (c : Dev nD)

/-- The arguments: the weights, and the gradient of the hidden layer. -/
abbrev weights : FVec Ideal S2048x8192 .f32 := m ((c : Thread nD τ).loc main_arg1)
abbrev hidden : FVec Ideal S2048x8192 .f32 := m ((c : Thread nD τ).loc main_arg2)

/-- Where the blocks of point `t` lie. -/
theorem index_eq : ∀ t : Fin cfg0.N, win0_0.index t = ![t.val / 16, t.val % 8] ∧ win0_1.index t = ![t.val % 8, t.val / 8 % 2, 0]
    ∧ win0_2.index t = ![t.val / 16, t.val / 8 % 2] := by decide +kernel

theorem points_lt (t : Fin cfg0.N) : t.val < 32 := lt_of_lt_of_eq t.isLt (show cfg0.N = 32 from N_0)

theorem entry0 (i : S2048x8192.Idx) : (V m c main_v0 : FVec Ideal S2048x8192 .bf16) i = hidden m c i := by
  unfold V
  after_reads_at

/-- The weights by slot: slot `s` holds the columns from `s * 1024`. -/
theorem entry1 (s : Fin 8) (r : Fin 2048) (l : Fin 1024) : (V m c main_v3 : FVec Ideal S8x2048x1024 .bf16) (ix3 s r l)
    = weights m c (ix2 r ⟨s.val * 1024 + l.val, by omega⟩) := by
  unfold V
  after_reads_at

/-- What point `t` adds at an entry of its block. -/
def term (t : Fin cfg0.N) (y : S1024x1024.Idx) : EReal := k0_pay1 (F := Ideal) (iblk m c 0 t) (iblk m c 1 t) y

theorem term_eq (t : Fin cfg0.N) (a b : Fin 1024) : term m c t (ix2 a b) = ∑ k : Fin 1024,
    (hidden m c (ix2 ⟨t.val / 16 * 1024 + a.val, by have := points_lt t; omega⟩ ⟨t.val % 8 * 1024 + k.val, by omega⟩) : EReal)
      * weights m c (ix2 ⟨t.val / 8 % 2 * 1024 + b.val, by omega⟩ ⟨t.val % 8 * 1024 + k.val, by omega⟩) := by
  have h := index_eq t
  have ht := points_lt t
  have e0 : ∀ r k, iblk m c 0 t (ix2 r k) = V m c main_v0 (ix2 ⟨t.val / 16 * 1024 + r.val, by omega⟩ ⟨t.val % 8 * 1024 + k.val, by omega⟩) :=
    fun r k => by blk_ext [iblk, h]
  have e1 : ∀ r k, iblk m c 1 t (ix3 0 r k) = V m c main_v3 (ix3 ⟨t.val % 8, by omega⟩ ⟨t.val / 8 % 2 * 1024 + r.val, by omega⟩ k) :=
    fun r k => by blk_ext [iblk, h]
  unfold term k0_pay1
  pointwise
  exact Fin.sum_fin_congr fun k => congrArg₂ (· * ·) ((e0 a k).trans (entry0 m c _)) ((e1 b k).trans (entry1 m c _ _ _))

/-- The running sum after point `n`: carried until the last of the eight points, then handed out. -/
def sum (n : ℕ) (h : n < cfg0.N) : S1024x1024.Idx → EReal :=
  if n % 8 = 7 then (outsAt0 m c n h).1 else (outsAt0 m c n h).2

theorem sum_first (t : Fin cfg0.N) (h : t.val % 8 = 0) (y : S1024x1024.Idx) :
    sum m c t.val t.isLt y = (fun _ => 0 : S1024x1024.Idx → EReal) y + term m c t y := by
  unfold sum
  rw [if_neg (by omega), outsAt0_A m c t h (by omega) (by omega)]
  dsimp only
  frame_out
  unfold k0_pay2 term
  pointwise

theorem sum_next (t : Fin cfg0.N) (h : ¬t.val % 8 = 0) (y : S1024x1024.Idx) :
    sum m c t.val t.isLt y = sum m c (t.val - 1) (Nat.lt_of_le_of_lt (Nat.sub_le _ _) t.isLt) y + term m c t y := by
  unfold sum
  rw [if_neg (show ¬(t.val - 1) % 8 = 7 by omega)]
  by_cases h7 : t.val % 8 = 7
  · rw [if_pos h7, outsAt0_C m c t h (by omega) h7]
    dsimp only
    frame_out
    simp only [read_unread_whole]
    unfold k0_pay4 term
    pointwise
  · rw [if_neg h7, outsAt0_B m c t h (by omega) h7]
    dsimp only
    frame_out
    simp only [read_unread_whole]
    unfold k0_pay3 term
    pointwise

theorem final : (dats m 0 c).arrAt 2 cfg0.N = product (hidden m c) (weights m c) := by
  refine (dats m 0 c).arrAt_eq_of_covers 2 _ (by decide +kernel) fun t hf y => ?_
  have h := index_eq t
  have ht := points_lt t
  have h7 : t.val % 8 = 7 := (flush0_2 t).mp hf
  blk_simp
  rw [after0_2]
  have e := Pipeline.eq_sum_fin_of_reset_step_apply_of_flush (sum m c) 8 (fun _ => 0) (term m c) (sum_first m c) (sum_next m c) t h7
  have e' : (outsAt0 m c t.val t.isLt).1 = sum m c t.val t.isLt := by
    unfold sum
    rw [if_pos h7]
  rw [e']
  idx_vars y
  refine (e _).trans ((zero_add _).trans ?_)
  have hj : (win0_2.blk t).view.emb (ix2 y0 y1)
      = ix2 ⟨t.val / 16 * 1024 + y0.val, by omega⟩ ⟨t.val / 8 % 2 * 1024 + y1.val, by omega⟩ := by blk_ext [h]
  rw [hj]
  simp only [term_eq]
  refine Fin.sum_mul_add_congr (fun s k hl => ?_)
  have d1 : (8 * (t.val / 8) + s.val) / 16 = t.val / 16 := by omega
  have d2 : (8 * (t.val / 8) + s.val) % 8 = s.val := by omega
  have d3 : (8 * (t.val / 8) + s.val) / 8 % 2 = t.val / 8 % 2 := by omega
  simp only [d1, d2, d3]
  rfl

/-- The reference's lines compute the same product. -/
theorem reference_eq (w g : FVec Ideal S2048x8192 .f32) :
    Cert.Reference4Ideal.Read.val_main_v1 (F := Ideal) w g = product g w := by
  funext y
  idx_vars y
  unfold product Cert.Reference4Ideal.Read.val_main_v1
  pointwise

/-- The reference leaves its arguments and has no semaphore. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's result is the reference's. -/
theorem values : Cert.algebraic_Kernel4Ideal_Reference4Ideal := by
  intro m ρ m' ρ' _ hagree
  refine ⟨fun c => product (hidden m c) (weights m c),
    (θ_run _ _ _).mono (fun r h c => ⟨(h c).1.trans (final m c), (h c).2⟩) (run_blocks m ρ),
    (θ_run _ _ _).mono (fun r h c => ⟨(h c).1.trans ?_, (h c).2⟩) (Cert.Reference4Ideal.Value.run (F := Ideal) m' ρ')⟩
  rw [(hagree c).2.1, (hagree c).2.2]
  exact reference_eq _ _

end Cert.UpInput

end
-- ==== Proof.DownInput.lean ====
/- The second product's gradient in its input, through the squared rectifier: what the kernel leaves is the reference's. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.StableHlo.ReadAt
public import Idealize.ShloMosaic.Lib.Quiescent

@[expose] public section

set_option maxRecDepth 16384

noncomputable section

namespace Cert.DownInput

open Idealize.ShloMosaic Idealize.ShloMosaic.TcCoe Idealize.SL.Sem
open Cert.Kernel5Ideal Cert.Kernel5Ideal.Gen Cert.Kernel5Ideal.Value

/-- The factor two, as both programs hold it. -/
abbrev two : EReal := Ideal.ofBits .f32 0x40000000#32

/-- The gradient: entry `(i, j)` is the incoming gradient's row `i` times the weights' row `j`, times twice the rectified entry. -/
def product (a : FVec Ideal S2048x8192 .f32) (w : FVec Ideal S8192x2048 .f32) (g : FVec Ideal S2048x2048 .f32) :
    FVec Ideal S2048x8192 .bf16 := fun y =>
  (∑ k : Fin 2048, (g (ix2 (y 0) k) : EReal) * w (ix2 (y 1) k)) * (two * max (a y : EReal) 0)

variable (m : (ℓ : Loc nD τ sig) → Buf (Elt Ideal) ℓ) (ρ : Dev nD → PrngReg) (c : Dev nD)

/-- The arguments: the hidden layer before the rectifier, the weights, and the incoming gradient. -/
abbrev hidden : FVec Ideal S2048x8192 .f32 := m ((c : Thread nD τ).loc main_arg0)
abbrev weights : FVec Ideal S8192x2048 .f32 := m ((c : Thread nD τ).loc main_arg1)
abbrev incoming : FVec Ideal S2048x2048 .f32 := m ((c : Thread nD τ).loc main_arg2)

/-- Where the blocks of point `t` lie. -/
theorem index_eq : ∀ t : Fin cfg0.N, win0_0.index t = ![t.val / 8, 0] ∧ win0_1.index t = ![t.val % 8, 0]
    ∧ win0_2.index t = ![t.val / 8, t.val % 8] ∧ win0_3.index t = ![t.val / 8, t.val % 8] := by decide +kernel

theorem points_lt (t : Fin cfg0.N) : t.val < 16 := lt_of_lt_of_eq t.isLt (show cfg0.N = 16 from N_0)

theorem entry0 (i : S2048x2048.Idx) : (V m c main_v0 : FVec Ideal S2048x2048 .bf16) i = incoming m c i := by
  unfold V
  after_reads_at

theorem entry1 (i : S8192x2048.Idx) : (V m c main_v1 : FVec Ideal S8192x2048 .bf16) i = weights m c i := by
  unfold V
  after_reads_at

theorem final : (dats m 0 c).arrAt 3 cfg0.N = product (hidden m c) (weights m c) (incoming m c) := by
  refine (dats m 0 c).arrAt_eq_of_covers 3 _ (by decide +kernel) fun t hf y => ?_
  have h := index_eq t
  have ht := points_lt t
  blk_simp
  rw [after0_3]
  unfold outsAt0
  frame_out
  have e0 : ∀ r k, iblk m c 0 t (ix2 r k) = V m c main_v0 (ix2 ⟨t.val / 8 * 1024 + r.val, by omega⟩ k) :=
    fun r k => by blk_ext [iblk, h]
  have e1 : ∀ r k, iblk m c 1 t (ix2 r k) = V m c main_v1 (ix2 ⟨t.val % 8 * 1024 + r.val, by omega⟩ k) :=
    fun r k => by blk_ext [iblk, h]
  have e2 : ∀ r l, iblk m c 2 t (ix2 r l) = V m c main_arg0 (ix2 ⟨t.val / 8 * 1024 + r.val, by omega⟩ ⟨t.val % 8 * 1024 + l.val, by omega⟩) :=
    fun r l => by blk_ext [iblk, h]
  idx_vars y
  unfold_payloads
  pointwise
  have hj : ((View.whole main_v2).slice (win0_3.rect t)).emb (ix2 y0 y1)
      = ix2 ⟨t.val / 8 * 1024 + y0.val, by omega⟩ ⟨t.val % 8 * 1024 + y1.val, by omega⟩ := by blk_ext [h]
  rw [hj]
  refine congrArg₂ (fun p q : EReal => p * (two * max q 0)) ?_ ((e2 y0 y1).trans (congrFun (V_main_arg0 m c) _))
  exact Fin.sum_fin_congr fun k => congrArg₂ (· * ·) ((e0 y0 k).trans (entry0 m c _)) ((e1 y1 k).trans (entry1 m c _))

/-- Where an entry is not positive the factor is zero, so selecting zero there changes nothing. -/
theorem select_rectified (a s : EReal) (h : ¬0 < a) : 0 = s * (two * max a 0) := by
  rw [max_eq_right (not_lt.mp h), mul_zero, mul_zero]

/-- The reference's lines compute the same product. -/
theorem reference_eq (a : FVec Ideal S2048x8192 .f32) (w : FVec Ideal S8192x2048 .f32) (g : FVec Ideal S2048x2048 .f32) :
    Cert.Reference5Ideal.Read.val_main_v12 (F := Ideal) a w g = product a w g := by
  funext y
  idx_vars y
  unfold product
  pointwise [Cert.Reference5Ideal.Read.val_main_v12, Cert.Reference5Ideal.Read.val_main_v11, Cert.Reference5Ideal.Read.val_main_v10,
    Cert.Reference5Ideal.Read.val_main_v9, Cert.Reference5Ideal.Read.val_main_v8, Cert.Reference5Ideal.Read.val_main_v6,
    Cert.Reference5Ideal.Read.val_main_v5, Cert.Reference5Ideal.Read.val_main_v2, Cert.Reference5Ideal.Read.val_main_v1,
    Cert.Reference5Ideal.Read.val_main_v0, Cert.Reference5Ideal.Read.val_main_call0_v0, Cert.Reference5Ideal.Read.val_main_call0_cst,
    Cert.Reference5Ideal.Read.val_main_cst, Cert.Reference5Ideal.Read.val_main_cst_1, Cert.Reference5Ideal.Read.val_main_cst_2]
  split_ifs with h
  · rfl
  · exact select_rectified _ _ h

/-- The reference leaves its arguments and has no semaphore. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's result is the reference's. -/
theorem values : Cert.algebraic_Kernel5Ideal_Reference5Ideal := by
  intro m ρ m' ρ' _ hagree
  refine ⟨fun c => product (hidden m c) (weights m c) (incoming m c),
    (θ_run _ _ _).mono (fun r h c => ⟨(h c).1.trans (final m c), (h c).2⟩) (run_blocks m ρ),
    (θ_run _ _ _).mono (fun r h c => ⟨(h c).1.trans ?_, (h c).2⟩) (Cert.Reference5Ideal.Value.run (F := Ideal) m' ρ')⟩
  rw [(hagree c).1, (hagree c).2.1, (hagree c).2.2]
  exact reference_eq _ _ _

end Cert.DownInput

end
-- ==== Proof.Up.lean ====
/- The first product and its squared rectifier: what the kernel leaves is the reference's. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.StableHlo.ReadAt
public import Idealize.ShloMosaic.Lib.Quiescent

@[expose] public section

set_option maxRecDepth 16384

noncomputable section

namespace Cert.Up

open Idealize.ShloMosaic Idealize.ShloMosaic.TcCoe Idealize.SL.Sem
open Cert.Kernel6Ideal Cert.Kernel6Ideal.Gen Cert.Kernel6Ideal.Value

/-- The product: entry `(i, j)` is the input's row `i` times the weights' column `j`. -/
def product (x : FVec Ideal S2048x2048 .f32) (w : FVec Ideal S2048x8192 .f32) : FVec Ideal S2048x8192 .f32 := fun y =>
  ∑ k : Fin 2048, (x (ix2 (y 0) k) : EReal) * w (ix2 k (y 1))

/-- The squared rectifier of an array. -/
def squared (a : FVec Ideal S2048x8192 .f32) : FVec Ideal S2048x8192 .bf16 := fun y => max (a y : EReal) 0 * max (a y : EReal) 0

variable (m : (ℓ : Loc nD τ sig) → Buf (Elt Ideal) ℓ) (ρ : Dev nD → PrngReg) (c : Dev nD)

/-- The arguments: the normed input and the weights. -/
abbrev input : FVec Ideal S2048x2048 .f32 := m ((c : Thread nD τ).loc main_arg0)
abbrev weights : FVec Ideal S2048x8192 .f32 := m ((c : Thread nD τ).loc main_arg1)

/-- Where the blocks of point `t` lie. -/
theorem index_eq : ∀ t : Fin cfg0.N, win0_0.index t = ![t.val / 8, 0] ∧ win0_1.index t = ![t.val % 8, 0, 0]
    ∧ win0_2.index t = ![t.val / 8, t.val % 8] ∧ win0_3.index t = ![t.val / 8, t.val % 8] := by decide +kernel

theorem points_lt (t : Fin cfg0.N) : t.val < 16 := lt_of_lt_of_eq t.isLt (show cfg0.N = 16 from N_0)

theorem entry0 (i : S2048x2048.Idx) : (V m c main_v0 : FVec Ideal S2048x2048 .bf16) i = input m c i := by
  unfold V
  after_reads_at

/-- The weights by slot: slot `s` holds the columns from `s * 1024`. -/
theorem entry1 (s : Fin 8) (r : Fin 2048) (l : Fin 1024) : (V m c main_v3 : FVec Ideal S8x2048x1024 .bf16) (ix3 s r l)
    = weights m c (ix2 r ⟨s.val * 1024 + l.val, by omega⟩) := by
  unfold V
  after_reads_at

/-- An entry of point `t`'s block is the whole product's at its place. -/
theorem block (t : Fin cfg0.N) (a b : Fin 1024) : k0_pay1 (F := Ideal) (iblk m c 0 t) (iblk m c 1 t) (ix2 a b)
    = product (input m c) (weights m c) (ix2 ⟨t.val / 8 * 1024 + a.val, by have := points_lt t; omega⟩ ⟨t.val % 8 * 1024 + b.val, by omega⟩) := by
  have h := index_eq t
  have ht := points_lt t
  have e0 : ∀ r k, iblk m c 0 t (ix2 r k) = V m c main_v0 (ix2 ⟨t.val / 8 * 1024 + r.val, by omega⟩ k) :=
    fun r k => by blk_ext [iblk, h]
  have e1 : ∀ k l, iblk m c 1 t (ix3 0 k l) = V m c main_v3 (ix3 ⟨t.val % 8, by omega⟩ k l) :=
    fun k l => by blk_ext [iblk, h]
  unfold k0_pay1
  pointwise
  exact Fin.sum_fin_congr fun k => congrArg₂ (· * ·) ((e0 a k).trans (entry0 m c _)) ((e1 k b).trans (entry1 m c _ _ _))

theorem final_product : (dats m 0 c).arrAt 2 cfg0.N = product (input m c) (weights m c) := by
  refine (dats m 0 c).arrAt_eq_of_covers 2 _ (by decide +kernel) fun t hf y => ?_
  have h := index_eq t
  have ht := points_lt t
  blk_simp
  rw [after0_2]
  unfold outsAt0
  frame_out
  idx_vars y
  refine (block m c t y0 y1).trans (congrArg _ ?_)
  blk_ext [h]

theorem final_squared : (dats m 0 c).arrAt 3 cfg0.N = squared (product (input m c) (weights m c)) := by
  refine (dats m 0 c).arrAt_eq_of_covers 3 _ (by decide +kernel) fun t hf y => ?_
  have h := index_eq t
  have ht := points_lt t
  blk_simp
  rw [after0_3]
  unfold outsAt0
  frame_out
  idx_vars y
  unfold k0_pay2
  pointwise
  rw [block]
  have hj : ((View.whole main_v4_1).slice (win0_3.rect t)).emb (ix2 y0 y1)
      = ix2 ⟨t.val / 8 * 1024 + y0.val, by omega⟩ ⟨t.val % 8 * 1024 + y1.val, by omega⟩ := by blk_ext [h]
  rw [hj]
  rfl

/-- The reference's lines compute the same product … -/
theorem reference_product (x : FVec Ideal S2048x2048 .f32) (w : FVec Ideal S2048x8192 .f32) :
    Cert.Reference6Ideal.Read.val_main_v0 (F := Ideal) x w = product x w := by
  funext y
  idx_vars y
  unfold product Cert.Reference6Ideal.Read.val_main_v0
  pointwise

/-- … and the same square. -/
theorem reference_squared (x : FVec Ideal S2048x2048 .f32) (w : FVec Ideal S2048x8192 .f32) :
    Cert.Reference6Ideal.Read.val_main_v3 (F := Ideal) x w = squared (product x w) := by
  funext y
  unfold squared Cert.Reference6Ideal.Read.val_main_v3 Cert.Reference6Ideal.Read.val_main_v2 Cert.Reference6Ideal.Read.val_main_v1
    Cert.Reference6Ideal.Read.val_main_call0_v0 Cert.Reference6Ideal.Read.val_main_call0_cst
  rw [reference_product]
  pointwise

/-- The reference leaves its arguments and has no semaphore. -/
theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The kernel's results are the reference's. -/
theorem values : Cert.algebraic_Kernel6Ideal_Reference6Ideal := by
  intro m ρ m' ρ' _ hagree
  refine ⟨fun c => product (input m c) (weights m c), fun c => squared (product (input m c) (weights m c)),
    (θ_run _ _ _).mono (fun r h c => ⟨(h c).1.trans (final_product m c), (h c).2.1.trans (final_squared m c), (h c).2.2⟩) (run_blocks m ρ),
    (θ_run _ _ _).mono (fun r h c => ⟨(h c).1.trans ?_, (h c).2.1.trans ?_, (h c).2.2⟩) (Cert.Reference6Ideal.Value.run (F := Ideal) m' ρ')⟩
  · rw [(hagree c).1, (hagree c).2]
    exact reference_product _ _
  · rw [(hagree c).1, (hagree c).2]
    exact reference_squared _ _

end Cert.Up

end
-- ==== Proof.Down.lean ====
/- The second product, of the squared rectified layer: what the kernel accumulates over four points is the reference's. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.StableHlo.ReadAt
public import Idealize.ShloMosaic.Lib.Pipeline.ReadBack
public import Idealize.ShloMosaic.Lib.Quiescent

@[expose] public section

set_option maxRecDepth 16384

noncomputable section

namespace Cert.Down

open Idealize.ShloMosaic Idealize.ShloMosaic.TcCoe Idealize.SL.Sem
open Cert.Kernel7Ideal Cert.Kernel7Ideal.Gen Cert.Kernel7Ideal.Value

/-- The product: entry `(i, j)` is the squared rectified row `i` times the weights' column `j`. -/
def product (a : FVec Ideal S2048x8192 .f32) (w : FVec Ideal S8192x2048 .f32) : FVec Ideal S2048x2048 .f32 := fun y =>
  ∑ k : Fin 8192, (max (a (ix2 (y 0) k) : EReal) 0 * max (a (ix2 (y 0) k) : EReal) 0) * w (ix2 k (y 1))

variable (m : (ℓ : Loc nD τ sig) → Buf (Elt Ideal) ℓ) (ρ : Dev nD → PrngReg) (c : Dev nD)

/-- The arguments: the hidden layer before the rectifier, and the weights. -/
abbrev hidden : FVec Ideal S2048x8192 .f32 := m ((c : Thread nD τ).loc main_arg0)
abbrev weights : FVec Ideal S8192x2048 .f32 := m ((c : Thread nD τ).loc main_arg1)

/-- The square of a rectified entry. -/
abbrev square (i : S2048x8192.Idx) : EReal := max (hidden m c i : EReal) 0 * max (hidden m c i : EReal) 0

/-- Where the blocks of point `t` lie. -/
theorem index_eq : ∀ t : Fin cfg0.N, win0_0.index t = ![t.val / 8, t.val % 4] ∧ win0_1.index t = ![t.val % 4, t.val / 4 % 2]
    ∧ win0_2.index t = ![t.val / 8, t.val / 4 % 2] := by decide +kernel

theorem points_lt (t : Fin cfg0.N) : t.val < 16 := lt_of_lt_of_eq t.isLt (show cfg0.N = 16 from N_0)

theorem entry0 (i : S2048x8192.Idx) : (V m c main_v2 : FVec Ideal S2048x8192 .bf16) i = square m c i := by
  unfold V
  after_reads_at

theorem entry1 (i : S8192x2048.Idx) : (V m c main_v3 : FVec Ideal S8192x2048 .bf16) i = weights m c i := by
  unfold V
  after_reads_at

/-- What point `t` adds at an entry of its block. -/
def term (t : Fin cfg0.N) (y : S1024x1024.Idx) : EReal := k0_pay1 (F := Ideal) (iblk m c 0 t) (iblk m c 1 t) y

theorem term_eq (t : Fin cfg0.N) (a b : Fin 1024) : term m c t (ix2 a b) = ∑ k : Fin 2048,
    square m c (ix2 ⟨t.val / 8 * 1024 + a.val, by have := points_lt t; omega⟩ ⟨t.val % 4 * 2048 + k.val, by omega⟩)
      * weights m c (ix2 ⟨t.val % 4 * 2048 + k.val, by omega⟩ ⟨t.val / 4 % 2 * 1024 + b.val, by omega⟩) := by
  have h := index_eq t
  have ht := points_lt t
  have e0 : ∀ r k, iblk m c 0 t (ix2 r k) = V m c main_v2 (ix2 ⟨t.val / 8 * 1024 + r.val, by omega⟩ ⟨t.val % 4 * 2048 + k.val, by omega⟩) :=
    fun r k => by blk_ext [iblk, h]
  have e1 : ∀ k l, iblk m c 1 t (ix2 k l) = V m c main_v3 (ix2 ⟨t.val % 4 * 2048 + k.val, by omega⟩ ⟨t.val / 4 % 2 * 1024 + l.val, by omega⟩) :=
    fun k l => by blk_ext [iblk, h]
  unfold term k0_pay1
  pointwise
  exact Fin.sum_fin_congr fun k => congrArg₂ (· * ·) ((e0 a k).trans (entry0 m c _)) ((e1 k b).trans (entry1 m c _))

/-- The running sum after point `n`: carried until the last of the four points, then handed out. -/
def sum (n : ℕ) (h : n < cfg0.N) : S1024x1024.Idx → EReal :=
  if n % 4 = 3 then (outsAt0 m c n h).1 else (outsAt0 m c n h).2

theorem sum_first (t : Fin cfg0.N) (h : t.val % 4 = 0) (y : S1024x1024.Idx) :
    sum m c t.val t.isLt y = (fun _ => 0 : S1024x1024.Idx → EReal) y + term m c t y := by
  unfold sum
  rw [if_neg (by omega), outsAt0_A m c t h (by omega) (by omega)]
  dsimp only
  frame_out
  unfold k0_pay2 term
  pointwise

theorem sum_next (t : Fin cfg0.N) (h : ¬t.val % 4 = 0) (y : S1024x1024.Idx) :
    sum m c t.val t.isLt y = sum m c (t.val - 1) (Nat.lt_of_le_of_lt (Nat.sub_le _ _) t.isLt) y + term m c t y := by
  unfold sum
  rw [if_neg (show ¬(t.val - 1) % 4 = 3 by omega)]
  by_cases h3 : t.val % 4 = 3
  · rw [if_pos h3, outsAt0_C m c t h (by omega) h3]
    dsimp only
    frame_out
    simp only [read_unread_whole]
    unfold k0_pay4 term
    pointwise
  · rw [if_neg h3, outsAt0_B m c t h (by omega) h3]
    dsimp only
    frame_out
    simp only [read_unread_whole]
    unfold k0_pay3 term
    pointwise

theorem final : (dats m 0 c).arrAt 2 cfg0.N = product (hidden m c) (weights m c) := by
  refine (dats m 0 c).arrAt_eq_of_covers 2 _ (by decide +kernel) fun t hf y => ?_
  have h := index_eq t
  have ht := points_lt t
  have h3 : t.val % 4 = 3 := (flush0_2 t).mp hf
  blk_simp
  rw [after0_2]
  have e := Pipeline.eq_sum_fin_of_reset_step_apply_of_flush (sum m c) 4 (fun _ => 0) (term m c) (sum_first m c) (sum_next m c) t h3
  have e' : (outsAt0 m c t.val t.isLt).1 = sum m c t.val t.isLt := by
    unfold sum
    rw [if_pos h3]
  rw [e']
  idx_vars y
  refine (e _).trans ((zero_add _).trans ?_)
  have hj : (win0_2.blk t).view.emb (ix2 y0 y1)
      = ix2 ⟨t.val / 8 * 1024 + y0.val, by omega⟩ ⟨t.val / 4 % 2 * 1024 + y1.val, by omega⟩ := by blk_ext [h]
  rw [hj]
  simp only [term_eq]
  refine Fin.sum_mul_add_congr (fun s k hl => ?_)
  have d1 : (4 * (t.val / 4) + s.val) / 8 = t.val / 8 := by omega
  have d2 : (4 * (t.val / 4) + s.val) % 4 = s.val := by omega
  have d3 : (4 * (t.val / 4) + s.val) / 4 % 2 = t.val / 4 % 2 := by omega
  simp only [d1, d2, d3]
  rfl

/-- The reference's lines compute the same product. -/
theorem reference_eq (a : FVec Ideal S2048x8192 .f32) (w : FVec Ideal S8192x2048 .f32) :
    Cert.Reference7Ideal.Read.val_main_v2 (F := Ideal) a w = product a w := by
  funext y
  idx_vars y
  unfold product Cert.Reference7Ideal.Read.val_main_v2 Cert.Reference7Ideal.Read.val_main_v1 Cert.Reference7Ideal.Read.val_main_v0
    Cert.Reference7Ideal.Read.val_main_call0_v0 Cert.Reference7Ideal.Read.val_main_call0_cst
  pointwise

/-- The reference leaves its arguments and has no semaphore. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel's result is the reference's. -/
theorem values : Cert.algebraic_Kernel7Ideal_Reference7Ideal := by
  intro m ρ m' ρ' _ hagree
  refine ⟨fun c => product (hidden m c) (weights m c),
    (θ_run _ _ _).mono (fun r h c => ⟨(h c).1.trans (final m c), (h c).2⟩) (run_blocks m ρ),
    (θ_run _ _ _).mono (fun r h c => ⟨(h c).1.trans ?_, (h c).2⟩) (Cert.Reference7Ideal.Value.run (F := Ideal) m' ρ')⟩
  rw [(hagree c).1, (hagree c).2]
  exact reference_eq _ _

end Cert.Down

end
-- ==== Proof.Padding.lean ====
/- An array with columns of zeros after its own, as both sides of the input projection hold it. -/
module

public import proofs.«01_k».proof.Kernel8Ideal
public import Idealize.ShloMosaic.Lib.Pointwise
public import Idealize.ShloMosaic.Lib.KernelVsHost

@[expose] public section

noncomputable section

namespace Cert.Padding

open Idealize.ShloMosaic Cert.Kernel8Ideal

/-- An array with 96 columns of zeros after its own. -/
def padded (a : FVec Ideal S2048x4512 .f32) : S2048x4608.Idx → EReal := fun y =>
  if h : (y 1).val < 4512 then a (ix2 (y 0) ⟨(y 1).val, h⟩) else 0

/-- The zero word read as a float is zero. -/
theorem sitofp_zero_word (t : FTy) : (FloatOps.sitofp (F := Ideal) t (0#32) : EReal) = 0 := by
  show ((((0#32 : BitVec 32).toInt : ℤ) : ℝ) : EReal) = 0
  simp

/-- Over the columns of zeros two padded rows add nothing to their product. -/
theorem sum_padded (a b : FVec Ideal S2048x4512 .f32) (r s : Fin 2048) :
    ∑ k : Fin 4608, padded a (ix2 r k) * padded b (ix2 s k) = ∑ k : Fin 4512, (a (ix2 r k) : EReal) * b (ix2 s k) := by
  refine (Fin.sum_univ_add (a := 4512) (b := 96) fun k => padded a (ix2 r k) * padded b (ix2 s k)).trans ?_
  have tail : ∀ k : Fin 96, padded a (ix2 r (Fin.natAdd 4512 k)) * padded b (ix2 s (Fin.natAdd 4512 k)) = 0 := fun k => by
    have e : padded a (ix2 r (Fin.natAdd 4512 k)) = 0 := dif_neg (show ¬4512 + k.val < 4512 by omega)
    rw [e, zero_mul]
  rw [Finset.sum_eq_zero fun k _ => tail k, add_zero]
  refine Finset.sum_congr rfl fun k _ => congrArg₂ (· * ·) ?_ ?_
  · exact dif_pos k.isLt
  · exact dif_pos k.isLt

end Cert.Padding

end
-- ==== Proof.ProjWeight.lean ====
/- The input projection's gradient in its weights: what the kernel leaves is the reference's. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.StableHlo.ReadAt
public import Idealize.ShloMosaic.Lib.Quiescent
public import proofs.«01_k».proof.Proof.Padding

@[expose] public section

set_option maxRecDepth 16384

noncomputable section

namespace Cert.ProjWeight

open Idealize.ShloMosaic Idealize.ShloMosaic.TcCoe Idealize.SL.Sem
open Cert.Kernel8Ideal Cert.Kernel8Ideal.Gen Cert.Kernel8Ideal.Value Cert.Padding

/-- The gradient: entry `(i, j)` is the sum over the rows of the input's column `i` times the incoming gradient's column `j`. -/
def product (x : FVec Ideal S2048x2048 .f32) (w : FVec Ideal S2048x4512 .f32) : FVec Ideal S2048x4608 .bf16 := fun y =>
  ∑ k : Fin 2048, (x (ix2 k (y 0)) : EReal) * padded w (ix2 k (y 1))

variable (m : (ℓ : Loc nD τ sig) → Buf (Elt Ideal) ℓ) (ρ : Dev nD → PrngReg) (c : Dev nD)

/-- The arguments: the normed input and the incoming gradient. -/
abbrev input : FVec Ideal S2048x2048 .f32 := m ((c : Thread nD τ).loc main_arg0)
abbrev incoming : FVec Ideal S2048x4512 .f32 := m ((c : Thread nD τ).loc main_arg2)

/-- Where the blocks of point `t` lie. -/
theorem index_eq : ∀ t : Fin cfg0.N, win0_0.index t = ![0, t.val / 6] ∧ win0_1.index t = ![0, t.val % 6]
    ∧ win0_2.index t = ![t.val / 6, t.val % 6] := by decide +kernel

theorem points_lt (t : Fin cfg0.N) : t.val < 12 := lt_of_lt_of_eq t.isLt (show cfg0.N = 12 from N_0)

theorem entry0 (i : S2048x2048.Idx) : (V m c main_v0 : FVec Ideal S2048x2048 .bf16) i = input m c i := by
  unfold V
  after_reads_at

theorem entry1 (i : S2048x4608.Idx) : (V m c main_v2 : FVec Ideal S2048x4608 .bf16) i = padded (incoming m c) i := by
  unfold V padded
  after_reads_at
  rw [sitofp_zero_word]

theorem final : (dats m 0 c).arrAt 2 cfg0.N = product (input m c) (incoming m c) := by
  refine (dats m 0 c).arrAt_eq_of_covers 2 _ (by decide +kernel) fun t hf y => ?_
  have h := index_eq t
  have ht := points_lt t
  blk_simp
  rw [after0_2]
  unfold outsAt0
  frame_out
  have e0 : ∀ r l, iblk m c 0 t (ix2 r l) = V m c main_v0 (ix2 r ⟨t.val / 6 * 1024 + l.val, by omega⟩) :=
    fun r l => by blk_ext [iblk, h]
  have e1 : ∀ r l, iblk m c 1 t (ix2 r l) = V m c main_v2 (ix2 r ⟨t.val % 6 * 768 + l.val, by omega⟩) :=
    fun r l => by blk_ext [iblk, h]
  idx_vars y
  unfold_payloads
  pointwise
  have hj : ((View.whole main_v3).slice (win0_2.rect t)).emb (ix2 y0 y1)
      = ix2 ⟨t.val / 6 * 1024 + y0.val, by omega⟩ ⟨t.val % 6 * 768 + y1.val, by omega⟩ := by blk_ext [h]
  rw [hj]
  exact Fin.sum_fin_congr fun k => congrArg₂ (· * ·) ((e0 k y0).trans (entry0 m c _)) ((e1 k y1).trans (entry1 m c _))

/-- The reference's lines compute the same product: its columns of zeros are products with zeros. -/
theorem reference_eq (x : FVec Ideal S2048x2048 .f32) (w : FVec Ideal S2048x4512 .f32) :
    Cert.Reference8Ideal.Read.val_main_v4 (F := Ideal) x w = product x w := by
  funext y
  idx_vars y
  unfold product padded
  pointwise [Cert.Reference8Ideal.Read.val_main_v4, Cert.Reference8Ideal.Read.val_main_call0_v0, Cert.Reference8Ideal.Read.val_main_c, Cert.Reference8Ideal.Read.val_main_v3, Cert.Reference8Ideal.Read.val_main_v2, Cert.Reference8Ideal.Read.val_main_v1]
  rw [sitofp_zero_word]
  split_ifs with h
  · exact Finset.sum_congr rfl fun k _ => mul_comm _ _
  · exact (Finset.sum_eq_zero fun k _ => mul_zero _).symm

/-- The reference leaves its arguments and has no semaphore. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel's result is the reference's. -/
theorem values : Cert.algebraic_Kernel8Ideal_Reference8Ideal := by
  intro m ρ m' ρ' _ hagree
  refine ⟨fun c => product (input m c) (incoming m c),
    (θ_run _ _ _).mono (fun r h c => ⟨(h c).1.trans (final m c), (h c).2⟩) (run_blocks m ρ),
    (θ_run _ _ _).mono (fun r h c => ⟨(h c).1.trans ?_, (h c).2⟩) (Cert.Reference8Ideal.Value.run (F := Ideal) m' ρ')⟩
  rw [(hagree c).1, (hagree c).2.2]
  exact reference_eq _ _

end Cert.ProjWeight

end
-- ==== Proof.ProjInput.lean ====
/- The input projection's gradient in its input: what the kernel accumulates over three points is the reference's. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.StableHlo.ReadAt
public import Idealize.ShloMosaic.Lib.Pipeline.ReadBack
public import Idealize.ShloMosaic.Lib.Quiescent
public import proofs.«01_k».proof.Proof.Padding

@[expose] public section

set_option maxRecDepth 16384

noncomputable section

namespace Cert.ProjInput

open Idealize.ShloMosaic Idealize.ShloMosaic.TcCoe Idealize.SL.Sem
open Cert.Kernel9Ideal Cert.Kernel9Ideal.Gen Cert.Kernel9Ideal.Value Cert.Padding

/-- The gradient: entry `(i, j)` is the incoming gradient's row `i` times the weights' row `j`, both with their columns of zeros. -/
def product (g w : FVec Ideal S2048x4512 .f32) : FVec Ideal S2048x2048 .f32 := fun y =>
  ∑ k : Fin 4608, padded g (ix2 (y 0) k) * padded w (ix2 (y 1) k)

variable (m : (ℓ : Loc nD τ sig) → Buf (Elt Ideal) ℓ) (ρ : Dev nD → PrngReg) (c : Dev nD)

/-- The arguments: the incoming gradient and the weights. -/
abbrev incoming : FVec Ideal S2048x4512 .f32 := m ((c : Thread nD τ).loc main_arg2)
abbrev weights : FVec Ideal S2048x4512 .f32 := m ((c : Thread nD τ).loc main_arg1)

/-- Where the blocks of point `t` lie. -/
theorem index_eq : ∀ t : Fin cfg0.N, win0_0.index t = ![t.val / 6, t.val % 3] ∧ win0_1.index t = ![t.val / 3 % 2, t.val % 3]
    ∧ win0_2.index t = ![t.val / 6, t.val / 3 % 2] := by decide +kernel

theorem points_lt (t : Fin cfg0.N) : t.val < 12 := lt_of_lt_of_eq t.isLt (show cfg0.N = 12 from N_0)

theorem entry0 (i : S2048x4608.Idx) : (V m c main_v1 : FVec Ideal S2048x4608 .bf16) i = padded (incoming m c) i := by
  unfold V padded
  after_reads_at
  rw [sitofp_zero_word]

theorem entry1 (i : S2048x4608.Idx) : (V m c main_v3 : FVec Ideal S2048x4608 .bf16) i = padded (weights m c) i := by
  unfold V padded
  after_reads_at
  rw [sitofp_zero_word]

/-- What point `t` adds at an entry of its block. -/
def term (t : Fin cfg0.N) (y : S1024x1024.Idx) : EReal := k0_pay1 (F := Ideal) (iblk m c 0 t) (iblk m c 1 t) y

theorem term_eq (t : Fin cfg0.N) (a b : Fin 1024) : term m c t (ix2 a b) = ∑ k : Fin 1536,
    padded (incoming m c) (ix2 ⟨t.val / 6 * 1024 + a.val, by have := points_lt t; omega⟩ ⟨t.val % 3 * 1536 + k.val, by omega⟩)
      * padded (weights m c) (ix2 ⟨t.val / 3 % 2 * 1024 + b.val, by omega⟩ ⟨t.val % 3 * 1536 + k.val, by omega⟩) := by
  have h := index_eq t
  have ht := points_lt t
  have e0 : ∀ r k, iblk m c 0 t (ix2 r k) = V m c main_v1 (ix2 ⟨t.val / 6 * 1024 + r.val, by omega⟩ ⟨t.val % 3 * 1536 + k.val, by omega⟩) :=
    fun r k => by blk_ext [iblk, h]
  have e1 : ∀ r k, iblk m c 1 t (ix2 r k) = V m c main_v3 (ix2 ⟨t.val / 3 % 2 * 1024 + r.val, by omega⟩ ⟨t.val % 3 * 1536 + k.val, by omega⟩) :=
    fun r k => by blk_ext [iblk, h]
  unfold term k0_pay1
  pointwise
  exact Fin.sum_fin_congr fun k => congrArg₂ (· * ·) ((e0 a k).trans (entry0 m c _)) ((e1 b k).trans (entry1 m c _))

/-- The running sum after point `n`: carried until the last of the three points, then handed out. -/
def sum (n : ℕ) (h : n < cfg0.N) : S1024x1024.Idx → EReal :=
  if n % 3 = 2 then (outsAt0 m c n h).1 else (outsAt0 m c n h).2

theorem sum_first (t : Fin cfg0.N) (h : t.val % 3 = 0) (y : S1024x1024.Idx) :
    sum m c t.val t.isLt y = (fun _ => 0 : S1024x1024.Idx → EReal) y + term m c t y := by
  unfold sum
  rw [if_neg (by omega), outsAt0_A m c t h (by omega) (by omega)]
  dsimp only
  frame_out
  unfold k0_pay2 term
  pointwise

theorem sum_next (t : Fin cfg0.N) (h : ¬t.val % 3 = 0) (y : S1024x1024.Idx) :
    sum m c t.val t.isLt y = sum m c (t.val - 1) (Nat.lt_of_le_of_lt (Nat.sub_le _ _) t.isLt) y + term m c t y := by
  unfold sum
  rw [if_neg (show ¬(t.val - 1) % 3 = 2 by omega)]
  by_cases h2 : t.val % 3 = 2
  · rw [if_pos h2, outsAt0_C m c t h (by omega) h2]
    dsimp only
    frame_out
    simp only [read_unread_whole]
    unfold k0_pay4 term
    pointwise
  · rw [if_neg h2, outsAt0_B m c t h (by omega) h2]
    dsimp only
    frame_out
    simp only [read_unread_whole]
    unfold k0_pay3 term
    pointwise

theorem final : (dats m 0 c).arrAt 2 cfg0.N = product (incoming m c) (weights m c) := by
  refine (dats m 0 c).arrAt_eq_of_covers 2 _ (by decide +kernel) fun t hf y => ?_
  have h := index_eq t
  have ht := points_lt t
  have h2 : t.val % 3 = 2 := (flush0_2 t).mp hf
  blk_simp
  rw [after0_2]
  have e := Pipeline.eq_sum_fin_of_reset_step_apply_of_flush (sum m c) 3 (fun _ => 0) (term m c) (sum_first m c) (sum_next m c) t h2
  have e' : (outsAt0 m c t.val t.isLt).1 = sum m c t.val t.isLt := by
    unfold sum
    rw [if_pos h2]
  rw [e']
  idx_vars y
  refine (e _).trans ((zero_add _).trans ?_)
  have hj : (win0_2.blk t).view.emb (ix2 y0 y1)
      = ix2 ⟨t.val / 6 * 1024 + y0.val, by omega⟩ ⟨t.val / 3 % 2 * 1024 + y1.val, by omega⟩ := by blk_ext [h]
  rw [hj]
  simp only [term_eq]
  refine Fin.sum_mul_add_congr (fun s k hl => ?_)
  have d1 : (3 * (t.val / 3) + s.val) / 6 = t.val / 6 := by omega
  have d2 : (3 * (t.val / 3) + s.val) % 3 = s.val := by omega
  have d3 : (3 * (t.val / 3) + s.val) / 3 % 2 = t.val / 3 % 2 := by omega
  simp only [d1, d2, d3]
  rfl

/-- The reference's lines compute the same product. -/
theorem reference_eq (g w : FVec Ideal S2048x4512 .f32) :
    Cert.Reference9Ideal.Read.val_main_v1 (F := Ideal) w g = product g w := by
  funext y
  idx_vars y
  refine Eq.trans ?_ (sum_padded g w y0 y1).symm
  unfold Cert.Reference9Ideal.Read.val_main_v1
  pointwise

/-- The reference leaves its arguments and has no semaphore. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The kernel's result is the reference's. -/
theorem values : Cert.algebraic_Kernel9Ideal_Reference9Ideal := by
  intro m ρ m' ρ' _ hagree
  refine ⟨fun c => product (incoming m c) (weights m c),
    (θ_run _ _ _).mono (fun r h c => ⟨(h c).1.trans (final m c), (h c).2⟩) (run_blocks m ρ),
    (θ_run _ _ _).mono (fun r h c => ⟨(h c).1.trans ?_, (h c).2⟩) (Cert.Reference9Ideal.Value.run (F := Ideal) m' ρ')⟩
  rw [(hagree c).2.1, (hagree c).2.2]
  exact reference_eq _ _

end Cert.ProjInput

end
-- ==== Proof.Proj.lean ====
/- The input projection: what the kernel leaves is the reference's. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.StableHlo.ReadAt
public import Idealize.ShloMosaic.Lib.Quiescent
public import proofs.«01_k».proof.Proof.Padding

@[expose] public section

set_option maxRecDepth 16384

noncomputable section

namespace Cert.Proj

open Idealize.ShloMosaic Idealize.ShloMosaic.TcCoe Idealize.SL.Sem
open Cert.Kernel10Ideal Cert.Kernel10Ideal.Gen Cert.Kernel10Ideal.Value Cert.Padding

/-- The product: entry `(i, j)` is the input's row `i` times the weights' column `j`. -/
def product (x : FVec Ideal S2048x2048 .f32) (w : FVec Ideal S2048x4512 .f32) : FVec Ideal S2048x4608 .f32 := fun y =>
  ∑ k : Fin 2048, (x (ix2 (y 0) k) : EReal) * padded w (ix2 k (y 1))

variable (m : (ℓ : Loc nD τ sig) → Buf (Elt Ideal) ℓ) (ρ : Dev nD → PrngReg) (c : Dev nD)

/-- The arguments: the normed input and the weights. -/
abbrev input : FVec Ideal S2048x2048 .f32 := m ((c : Thread nD τ).loc main_arg0)
abbrev weights : FVec Ideal S2048x4512 .f32 := m ((c : Thread nD τ).loc main_arg1)

/-- Where the blocks of point `t` lie. -/
theorem index_eq : ∀ t : Fin cfg0.N, win0_0.index t = ![t.val / 6, 0] ∧ win0_1.index t = ![0, t.val % 6]
    ∧ win0_2.index t = ![t.val / 6, t.val % 6] := by decide +kernel

theorem points_lt (t : Fin cfg0.N) : t.val < 12 := lt_of_lt_of_eq t.isLt (show cfg0.N = 12 from N_0)

theorem entry0 (i : S2048x2048.Idx) : (V m c main_v0 : FVec Ideal S2048x2048 .bf16) i = input m c i := by
  unfold V
  after_reads_at

theorem entry1 (i : S2048x4608.Idx) : (V m c main_v2 : FVec Ideal S2048x4608 .bf16) i = padded (weights m c) i := by
  unfold V padded
  after_reads_at
  rw [sitofp_zero_word]

theorem final : (dats m 0 c).arrAt 2 cfg0.N = product (input m c) (weights m c) := by
  refine (dats m 0 c).arrAt_eq_of_covers 2 _ (by decide +kernel) fun t hf y => ?_
  have h := index_eq t
  have ht := points_lt t
  blk_simp
  rw [after0_2]
  unfold outsAt0
  frame_out
  have e0 : ∀ r l, iblk m c 0 t (ix2 r l) = V m c main_v0 (ix2 ⟨t.val / 6 * 1024 + r.val, by omega⟩ l) :=
    fun r l => by blk_ext [iblk, h]
  have e1 : ∀ r l, iblk m c 1 t (ix2 r l) = V m c main_v2 (ix2 r ⟨t.val % 6 * 768 + l.val, by omega⟩) :=
    fun r l => by blk_ext [iblk, h]
  idx_vars y
  unfold_payloads
  pointwise
  have hj : ((View.whole main_v3).slice (win0_2.rect t)).emb (ix2 y0 y1)
      = ix2 ⟨t.val / 6 * 1024 + y0.val, by omega⟩ ⟨t.val % 6 * 768 + y1.val, by omega⟩ := by blk_ext [h]
  rw [hj]
  exact Fin.sum_fin_congr fun k => congrArg₂ (· * ·) ((e0 y0 k).trans (entry0 m c _)) ((e1 k y1).trans (entry1 m c _))

/-- The reference's lines compute the same product: its columns of zeros are products with zeros. -/
theorem reference_eq (x : FVec Ideal S2048x2048 .f32) (w : FVec Ideal S2048x4512 .f32) :
    Cert.Reference10Ideal.Read.val_main_v1 (F := Ideal) x w = product x w := by
  funext y
  idx_vars y
  unfold product padded
  pointwise [Cert.Reference10Ideal.Read.val_main_v1, Cert.Reference10Ideal.Read.val_main_call0_v0, Cert.Reference10Ideal.Read.val_main_c, Cert.Reference10Ideal.Read.val_main_v0]
  rw [sitofp_zero_word]
  split_ifs with h
  · rfl
  · exact (Finset.sum_eq_zero fun k _ => mul_zero _).symm

/-- The reference leaves its arguments and has no semaphore. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The kernel's result is the reference's. -/
theorem values : Cert.algebraic_Kernel10Ideal_Reference10Ideal := by
  intro m ρ m' ρ' _ hagree
  refine ⟨fun c => product (input m c) (weights m c),
    (θ_run _ _ _).mono (fun r h c => ⟨(h c).1.trans (final m c), (h c).2⟩) (run_blocks m ρ),
    (θ_run _ _ _).mono (fun r h c => ⟨(h c).1.trans ?_, (h c).2⟩) (Cert.Reference10Ideal.Value.run (F := Ideal) m' ρ')⟩
  rw [(hagree c).1, (hagree c).2]
  exact reference_eq _ _

end Cert.Proj

end
-- ==== Proof.MixWeight.lean ====
/- The output projection's gradient in its weights: what the kernel leaves is the reference's. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise
public import Idealize.ShloMosaic.Lib.StableHlo.ReadAt
public import Idealize.ShloMosaic.Lib.Quiescent

@[expose] public section

set_option maxRecDepth 16384

noncomputable section

namespace Cert.MixWeight

open Idealize.ShloMosaic Idealize.ShloMosaic.TcCoe Idealize.SL.Sem
open Cert.Kernel11Ideal Cert.Kernel11Ideal.Gen Cert.Kernel11Ideal.Value

/-- The gradient: entry `(i, j)` is the sum over the rows of the mixed column `i` times the incoming gradient's column `j`. -/
def product (x w : FVec Ideal S2048x2048 .f32) : FVec Ideal S2048x2048 .bf16 := fun y =>
  ∑ k : Fin 2048, (x (ix2 k (y 0)) : EReal) * w (ix2 k (y 1))

variable (m : (ℓ : Loc nD τ sig) → Buf (Elt Ideal) ℓ) (ρ : Dev nD → PrngReg) (c : Dev nD)

/-- The arguments: the two heads side by side, and the incoming gradient. -/
abbrev mixed : FVec Ideal S2048x2048 .f32 := m ((c : Thread nD τ).loc main_arg0)
abbrev incoming : FVec Ideal S2048x2048 .f32 := m ((c : Thread nD τ).loc main_arg2)

/-- Where the blocks of point `t` lie. -/
theorem index_eq : ∀ t : Fin cfg0.N, win0_0.index t = ![0, t.val / 2] ∧ win0_1.index t = ![0, t.val % 2]
    ∧ win0_2.index t = ![t.val / 2, t.val % 2] := by decide +kernel

theorem points_lt (t : Fin cfg0.N) : t.val < 4 := lt_of_lt_of_eq t.isLt (show cfg0.N = 4 from N_0)

theorem entry0 (i : S2048x2048.Idx) : (V m c main_v0 : FVec Ideal S2048x2048 .bf16) i = mixed m c i := by
  unfold V
  after_reads_at

theorem entry1 (i : S2048x2048.Idx) : (V m c main_v1 : FVec Ideal S2048x2048 .bf16) i = incoming m c i := by
  unfold V
  after_reads_at

theorem final : (dats m 0 c).arrAt 2 cfg0.N = product (mixed m c) (incoming m c) := by
  refine (dats m 0 c).arrAt_eq_of_covers 2 _ (by decide +kernel) fun t hf y => ?_
  have h := index_eq t
  have ht := points_lt t
  blk_simp
  rw [after0_2]
  unfold outsAt0
  frame_out
  have e0 : ∀ r l, iblk m c 0 t (ix2 r l) = V m c main_v0 (ix2 r ⟨t.val / 2 * 1024 + l.val, by omega⟩) :=
    fun r l => by blk_ext [iblk, h]
  have e1 : ∀ r l, iblk m c 1 t (ix2 r l) = V m c main_v1 (ix2 r ⟨t.val % 2 * 1024 + l.val, by omega⟩) :=
    fun r l => by blk_ext [iblk, h]
  idx_vars y
  unfold_payloads
  pointwise
  have hj : ((View.whole main_v2).slice (win0_2.rect t)).emb (ix2 y0 y1)
      = ix2 ⟨t.val / 2 * 1024 + y0.val, by omega⟩ ⟨t.val % 2 * 1024 + y1.val, by omega⟩ := by blk_ext [h]
  rw [hj]
  exact Fin.sum_fin_congr fun k => congrArg₂ (· * ·) ((e0 k y0).trans (entry0 m c _)) ((e1 k y1).trans (entry1 m c _))

/-- The reference's lines compute the same product. -/
theorem reference_eq (x w : FVec Ideal S2048x2048 .f32) :
    Cert.Reference11Ideal.Read.val_main_v3 (F := Ideal) x w = product x w := by
  funext y
  idx_vars y
  unfold product Cert.Reference11Ideal.Read.val_main_v3 Cert.Reference11Ideal.Read.val_main_v2 Cert.Reference11Ideal.Read.val_main_v1
  pointwise
  exact Finset.sum_congr rfl fun k _ => mul_comm _ _

/-- The reference leaves its arguments and has no semaphore. -/
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The kernel's result is the reference's. -/
theorem values : Cert.algebraic_Kernel11Ideal_Reference11Ideal := by
  intro m ρ m' ρ' _ hagree
  refine ⟨fun c => product (mixed m c) (incoming m c),
    (θ_run _ _ _).mono (fun r h c => ⟨(h c).1.trans (final m c), (h c).2⟩) (run_blocks m ρ),
    (θ_run _ _ _).mono (fun r h c => ⟨(h c).1.trans ?_, (h c).2⟩) (Cert.Reference11Ideal.Value.run (F := Ideal) m' ρ')⟩
  rw [(hagree c).1, (hagree c).2.2]
  exact reference_eq _ _

end Cert.MixWeight

end
-- ==== Proof.MixInput.lean ====
/- The output projection's gradient in its input: what the kernel leaves is the reference's. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise
public import Idealize.ShloMosaic.Lib.StableHlo.ReadAt
public import Idealize.ShloMosaic.Lib.Quiescent

@[expose] public section

set_option maxRecDepth 16384

noncomputable section

namespace Cert.MixInput

open Idealize.ShloMosaic Idealize.ShloMosaic.TcCoe Idealize.SL.Sem
open Cert.Kernel12Ideal Cert.Kernel12Ideal.Gen Cert.Kernel12Ideal.Value

/-- The gradient: entry `(i, j)` is the incoming gradient's row `i` times the weights' row `j`. -/
def product (x w : FVec Ideal S2048x2048 .f32) : FVec Ideal S2048x2048 .f32 := fun y =>
  ∑ k : Fin 2048, (x (ix2 (y 0) k) : EReal) * w (ix2 (y 1) k)

variable (m : (ℓ : Loc nD τ sig) → Buf (Elt Ideal) ℓ) (ρ : Dev nD → PrngReg) (c : Dev nD)

/-- The arguments: the incoming gradient and the weights. -/
abbrev incoming : FVec Ideal S2048x2048 .f32 := m ((c : Thread nD τ).loc main_arg2)
abbrev weights : FVec Ideal S2048x2048 .f32 := m ((c : Thread nD τ).loc main_arg1)

/-- Where the blocks of point `t` lie. -/
theorem index_eq : ∀ t : Fin cfg0.N, win0_0.index t = ![t.val / 2, 0] ∧ win0_1.index t = ![t.val % 2, 0]
    ∧ win0_2.index t = ![t.val / 2, t.val % 2] := by decide +kernel

theorem points_lt (t : Fin cfg0.N) : t.val < 4 := lt_of_lt_of_eq t.isLt (show cfg0.N = 4 from N_0)

theorem entry0 (i : S2048x2048.Idx) : (V m c main_v0 : FVec Ideal S2048x2048 .bf16) i = incoming m c i := by
  unfold V
  after_reads_at

theorem entry1 (i : S2048x2048.Idx) : (V m c main_v1 : FVec Ideal S2048x2048 .bf16) i = weights m c i := by
  unfold V
  after_reads_at

theorem final : (dats m 0 c).arrAt 2 cfg0.N = product (incoming m c) (weights m c) := by
  refine (dats m 0 c).arrAt_eq_of_covers 2 _ (by decide +kernel) fun t hf y => ?_
  have h := index_eq t
  have ht := points_lt t
  blk_simp
  rw [after0_2]
  unfold outsAt0
  frame_out
  have e0 : ∀ r l, iblk m c 0 t (ix2 r l) = V m c main_v0 (ix2 ⟨t.val / 2 * 1024 + r.val, by omega⟩ l) :=
    fun r l => by blk_ext [iblk, h]
  have e1 : ∀ r l, iblk m c 1 t (ix2 r l) = V m c main_v1 (ix2 ⟨t.val % 2 * 1024 + r.val, by omega⟩ l) :=
    fun r l => by blk_ext [iblk, h]
  idx_vars y
  unfold_payloads
  pointwise
  have hj : ((View.whole main_v2).slice (win0_2.rect t)).emb (ix2 y0 y1)
      = ix2 ⟨t.val / 2 * 1024 + y0.val, by omega⟩ ⟨t.val % 2 * 1024 + y1.val, by omega⟩ := by blk_ext [h]
  rw [hj]
  exact Fin.sum_fin_congr fun k => congrArg₂ (· * ·) ((e0 y0 k).trans (entry0 m c _)) ((e1 y1 k).trans (entry1 m c _))

/-- The reference's lines compute the same product. -/
theorem reference_eq (x w : FVec Ideal S2048x2048 .f32) :
    Cert.Reference12Ideal.Read.val_main_v1 (F := Ideal) w x = product x w := by
  funext y
  idx_vars y
  unfold product Cert.Reference12Ideal.Read.val_main_v1
  pointwise

/-- The reference leaves its arguments and has no semaphore. -/
theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The kernel's result is the reference's. -/
theorem values : Cert.algebraic_Kernel12Ideal_Reference12Ideal := by
  intro m ρ m' ρ' _ hagree
  refine ⟨fun c => product (incoming m c) (weights m c),
    (θ_run _ _ _).mono (fun r h c => ⟨(h c).1.trans (final m c), (h c).2⟩) (run_blocks m ρ),
    (θ_run _ _ _).mono (fun r h c => ⟨(h c).1.trans ?_, (h c).2⟩) (Cert.Reference12Ideal.Value.run (F := Ideal) m' ρ')⟩
  rw [(hagree c).2.1, (hagree c).2.2]
  exact reference_eq _ _

end Cert.MixInput

end
-- ==== Proof.Mix.lean ====
/- The output projection: what the kernel leaves is the reference's. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.StableHlo.ReadAt
public import Idealize.ShloMosaic.Lib.Quiescent

@[expose] public section

set_option maxRecDepth 16384

noncomputable section

namespace Cert.Mix

open Idealize.ShloMosaic Idealize.ShloMosaic.TcCoe Idealize.SL.Sem
open Cert.Kernel13Ideal Cert.Kernel13Ideal.Gen Cert.Kernel13Ideal.Value

/-- The product: entry `(i, j)` is the mixed row `i` times the weights' column `j`. -/
def product (x w : FVec Ideal S2048x2048 .f32) : FVec Ideal S2048x2048 .f32 := fun y =>
  ∑ k : Fin 2048, (x (ix2 (y 0) k) : EReal) * w (ix2 k (y 1))

variable (m : (ℓ : Loc nD τ sig) → Buf (Elt Ideal) ℓ) (ρ : Dev nD → PrngReg) (c : Dev nD)

/-- The arguments: the two heads side by side, and the weights. -/
abbrev mixed : FVec Ideal S2048x2048 .f32 := m ((c : Thread nD τ).loc main_arg0)
abbrev weights : FVec Ideal S2048x2048 .f32 := m ((c : Thread nD τ).loc main_arg1)

/-- Where the blocks of point `t` lie. -/
theorem index_eq : ∀ t : Fin cfg0.N, win0_0.index t = ![t.val / 2, 0] ∧ win0_1.index t = ![0, t.val % 2]
    ∧ win0_2.index t = ![t.val / 2, t.val % 2] := by decide +kernel

theorem points_lt (t : Fin cfg0.N) : t.val < 4 := lt_of_lt_of_eq t.isLt (show cfg0.N = 4 from N_0)

theorem entry0 (i : S2048x2048.Idx) : (V m c main_v0 : FVec Ideal S2048x2048 .bf16) i = mixed m c i := by
  unfold V
  after_reads_at

theorem entry1 (i : S2048x2048.Idx) : (V m c main_v1 : FVec Ideal S2048x2048 .bf16) i = weights m c i := by
  unfold V
  after_reads_at

theorem final : (dats m 0 c).arrAt 2 cfg0.N = product (mixed m c) (weights m c) := by
  refine (dats m 0 c).arrAt_eq_of_covers 2 _ (by decide +kernel) fun t hf y => ?_
  have h := index_eq t
  have ht := points_lt t
  blk_simp
  rw [after0_2]
  unfold outsAt0
  frame_out
  have e0 : ∀ r l, iblk m c 0 t (ix2 r l) = V m c main_v0 (ix2 ⟨t.val / 2 * 1024 + r.val, by omega⟩ l) :=
    fun r l => by blk_ext [iblk, h]
  have e1 : ∀ r l, iblk m c 1 t (ix2 r l) = V m c main_v1 (ix2 r ⟨t.val % 2 * 1024 + l.val, by omega⟩) :=
    fun r l => by blk_ext [iblk, h]
  idx_vars y
  unfold_payloads
  pointwise
  have hj : ((View.whole main_v2).slice (win0_2.rect t)).emb (ix2 y0 y1)
      = ix2 ⟨t.val / 2 * 1024 + y0.val, by omega⟩ ⟨t.val % 2 * 1024 + y1.val, by omega⟩ := by blk_ext [h]
  rw [hj]
  exact Fin.sum_fin_congr fun k => congrArg₂ (· * ·) ((e0 y0 k).trans (entry0 m c _)) ((e1 k y1).trans (entry1 m c _))

/-- The reference's lines compute the same product. -/
theorem reference_eq (x w : FVec Ideal S2048x2048 .f32) :
    Cert.Reference13Ideal.Read.val_main_v0 (F := Ideal) x w = product x w := by
  funext y
  idx_vars y
  unfold product Cert.Reference13Ideal.Read.val_main_v0
  pointwise

/-- The reference leaves its arguments and has no semaphore. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The kernel's result is the reference's. -/
theorem values : Cert.algebraic_Kernel13Ideal_Reference13Ideal := by
  intro m ρ m' ρ' _ hagree
  refine ⟨fun c => product (mixed m c) (weights m c),
    (θ_run _ _ _).mono (fun r h c => ⟨(h c).1.trans (final m c), (h c).2⟩) (run_blocks m ρ),
    (θ_run _ _ _).mono (fun r h c => ⟨(h c).1.trans ?_, (h c).2⟩) (Cert.Reference13Ideal.Value.run (F := Ideal) m' ρ')⟩
  rw [(hagree c).1, (hagree c).2]
  exact reference_eq _ _

end Cert.Mix

end
-- ==== Proof.AdamW.lean ====
/- The optimiser's step as the reference writes it, on one entry and on arrays, and what the kernel's two named reciprocals
   are to it. -/
module

public import Idealize.ShloMosaic.PureOps.IdealRules
public import Idealize.ShloMosaic.Lib.Pointwise

@[expose] public section

noncomputable section

namespace Cert.AdamW

open Idealize.ShloMosaic

/-- The new first moment, of the gradient and the old one. -/
def firstMoment (g m : EReal) : EReal := Ideal.ofBits .f32 0x3F666666#32 * m + Ideal.ofBits .f32 0x3DCCCCCD#32 * g

/-- The new second moment, of the gradient and the old one. -/
def secondMoment (g v : EReal) : EReal := Ideal.ofBits .f32 0x3F7FBE77#32 * v + Ideal.ofBits .f32 0x3A83126F#32 * (g * g)

/-- The change of the weight: both new moments divided by what the bias correction asks, then the step with decay. -/
def change (g w m v : EReal) : EReal :=
  Ideal.ofBits .f32 0xBA83126F#32 * (Ideal.div (Ideal.div (firstMoment g m) (Ideal.ofBits .f32 0x3F26BD02#32))
    (Ideal.sqrt (Ideal.div (secondMoment g v) (Ideal.ofBits .f32 0x3C231ACC#32)) + Ideal.ofBits .f32 0x322BCC77#32)
      + Ideal.ofBits .f32 0x3C23D70A#32 * w)

variable {p r c : ℕ} {φ : FTy}

/-- On arrays: the sum of the parts of the gradient, -/
def gradient (a : FVec Ideal ⟨3, ![p, r, c]⟩ φ) : FVec Ideal ⟨2, ![r, c]⟩ .f32 := fun y =>
  ∑ k : Fin p, (a (ix3 k (y 0) (y 1)) : EReal)

/-- the new moments, -/
def newMoment1 (a : FVec Ideal ⟨3, ![p, r, c]⟩ φ) (u : FVec Ideal ⟨2, ![r, c]⟩ .f32) : FVec Ideal ⟨2, ![r, c]⟩ .f32 :=
  fun y => firstMoment (gradient a y) (u y)

def newMoment2 (a : FVec Ideal ⟨3, ![p, r, c]⟩ φ) (v : FVec Ideal ⟨2, ![r, c]⟩ .f32) : FVec Ideal ⟨2, ![r, c]⟩ .f32 :=
  fun y => secondMoment (gradient a y) (v y)

/-- and the change of the weights. -/
def changes (a : FVec Ideal ⟨3, ![p, r, c]⟩ φ) (w u v : FVec Ideal ⟨2, ![r, c]⟩ .f32) : FVec Ideal ⟨2, ![r, c]⟩ .f32 :=
  fun y => change (gradient a y) (w y) (u y) (v y)

/-- The divisors of the two moments, as real numbers. -/
theorem divisor1 : Ideal.ofBits .f32 0x3F26BD02#32 = ((5463681 / 8388608 : ℝ) : EReal) := by
  simp [Ideal.ofBits, Ideal.ieee, -EReal.coe_mul]; norm_num

theorem divisor2 : Ideal.ofBits .f32 0x3C231ACC#32 = ((2672307 / 268435456 : ℝ) : EReal) := by
  simp [Ideal.ofBits, Ideal.ieee, -EReal.coe_mul]; norm_num

/-- Multiplying by the reciprocal of a divisor is dividing by it, at infinite moments too. -/
theorem mul_reciprocal1 (x : EReal) :
    x * ((8388608 / 5463681 : ℝ) : EReal) = Ideal.div x (Ideal.ofBits .f32 0x3F26BD02#32) := by
  rw [divisor1, Ideal.div_coe (by norm_num)]; norm_num

theorem mul_reciprocal2 (x : EReal) :
    x * ((268435456 / 2672307 : ℝ) : EReal) = Ideal.div x (Ideal.ofBits .f32 0x3C231ACC#32) := by
  rw [divisor2, Ideal.div_coe (by norm_num)]; norm_num

/-- A kernel's named constants are these reciprocals, where its table says so. -/
theorem c1 {κ : String → Option EReal} (h : κ "c1" = some ((8388608 / 5463681 : ℝ) : EReal)) :
    Named.named (F := Ideal) κ "c1" (φ := .f32) 0x3FC48605#32 = ((8388608 / 5463681 : ℝ) : EReal) :=
  IdealRules.named_const.ideal_named_scalar _ _ _ _ h

theorem c2 {κ : String → Option EReal} (h : κ "c2" = some ((268435456 / 2672307 : ℝ) : EReal)) :
    Named.named (F := Ideal) κ "c2" (φ := .f32) 0x42C8E6D3#32 = ((268435456 / 2672307 : ℝ) : EReal) :=
  IdealRules.named_const.ideal_named_scalar _ _ _ _ h

end Cert.AdamW

end
-- ==== Proof.UpdateIn.lean ====
/- The optimiser's step for the input projection: what the kernel leaves is the reference's. -/
module

public import proofs.«01_k».proof.Defs
public import proofs.«01_k».proof.Proof.AdamW
public import proofs.«01_k».proof.Proof.Gen.Kernel14Ideal.Value
public import proofs.«01_k».proof.Proof.Gen.Reference14Ideal.Run
public import Idealize.ShloMosaic.Lib.Pipeline.ValueKit
public import Idealize.ShloMosaic.Lib.Quiescent

@[expose] public section

set_option maxRecDepth 16384

noncomputable section

namespace Cert.UpdateIn

open Idealize.ShloMosaic Idealize.ShloMosaic.TcCoe Idealize.SL.Sem
open Cert.Kernel14Ideal Cert.Kernel14Ideal.Gen Cert.Kernel14Ideal.Value Cert.AdamW

variable (m : (ℓ : Loc nD τ sig) → Buf (Elt Ideal) ℓ) (c : Dev nD)

/-- The arguments: the parts of the gradient, the weights and their two moments. -/
abbrev parts : FVec Ideal S4x2048x564 .bf16 := m ((c : Thread nD τ).loc main_arg0)
abbrev weight : FVec Ideal S2048x564 .f32 := m ((c : Thread nD τ).loc main_arg1)
abbrev moment1 : FVec Ideal S2048x564 .f32 := m ((c : Thread nD τ).loc main_arg2)
abbrev moment2 : FVec Ideal S2048x564 .f32 := m ((c : Thread nD τ).loc main_arg3)

/-- Where the blocks of point `t` lie: all at block row `t`. -/
theorem index_eq : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] := by decide +kernel

theorem points_lt (t : Fin cfg0.N) : t.val < 4 := lt_of_lt_of_eq t.isLt (show cfg0.N = 4 from N_0)

/-- An argument's block at point `t` holds the argument's rows there. -/
theorem blocks_eq (t : Fin cfg0.N) :
    (∀ k (r : Fin 512) l, iblk m c 0 t (ix3 k r l) = parts m c (ix3 k ⟨t.val * 512 + r.val, by have := points_lt t; omega⟩ l))
    ∧ (∀ (r : Fin 512) l, iblk m c 1 t (ix2 r l) = weight m c (ix2 ⟨t.val * 512 + r.val, by have := points_lt t; omega⟩ l))
    ∧ (∀ (r : Fin 512) l, iblk m c 2 t (ix2 r l) = moment1 m c (ix2 ⟨t.val * 512 + r.val, by have := points_lt t; omega⟩ l))
    ∧ (∀ (r : Fin 512) l, iblk m c 3 t (ix2 r l) = moment2 m c (ix2 ⟨t.val * 512 + r.val, by have := points_lt t; omega⟩ l)) := by
  have h := index_eq t
  refine ⟨fun k r l => ?_, fun r l => ?_, fun r l => ?_, fun r l => ?_⟩ <;> blk_ext [iblk, h]

/-- What the kernel leaves: the sum of the parts, the change of the weights, and the two new moments. -/
theorem final : (dats m 0 c).arrAt 4 cfg0.N = gradient (parts m c)
    ∧ (dats m 0 c).arrAt 5 cfg0.N = changes (parts m c) (weight m c) (moment1 m c) (moment2 m c)
    ∧ (dats m 0 c).arrAt 6 cfg0.N = newMoment1 (parts m c) (moment1 m c)
    ∧ (dats m 0 c).arrAt 7 cfg0.N = newMoment2 (parts m c) (moment2 m c) := by
  refine ⟨(dats m 0 c).arrAt_eq_of_covers 4 _ (by decide +kernel) ?_, (dats m 0 c).arrAt_eq_of_covers 5 _ (by decide +kernel) ?_,
    (dats m 0 c).arrAt_eq_of_covers 6 _ (by decide +kernel) ?_, (dats m 0 c).arrAt_eq_of_covers 7 _ (by decide +kernel) ?_⟩
  all_goals
    intro t hf y
    have h := index_eq t
    have ht := points_lt t
    have e := blocks_eq m c t
    blk_simp
    first | rw [after0_4]; unfold out0_4 | rw [after0_5]; unfold out0_5 | rw [after0_6]; unfold out0_6 | rw [after0_7]; unfold out0_7
    frame_out
    idx_vars y
    refine Eq.trans ?_ (congrArg _ (show ix2 (⟨t.val * 512 + y0.val, by omega⟩ : Fin 2048) y1 = _ from by blk_ext [h]))
    unfold_payloads
    pointwise
    simp only [e, c1 (κ := κ) rfl, c2 (κ := κ) rfl, mul_reciprocal1, mul_reciprocal2]
    simp only [gradient, changes, newMoment1, newMoment2, Fin.sum_univ_four]
    rfl

/-- The idealization names two constants, each a reciprocal of a divisor. -/
theorem named : Cert.preserves_Kernel14_Kernel14Ideal :=
  ⟨IdealRules.named_const.statement κ "c1" .f32 0x3FC48605#32 _ rfl, IdealRules.named_const.statement κ "c2" .f32 0x42C8E6D3#32 _ rfl⟩

/-- The reference leaves its arguments and has no semaphore. -/
theorem frame_reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

/-- The kernel's four results are the reference's. -/
theorem values : Cert.algebraic_Kernel14Ideal_Reference14Ideal := by
  intro m ρ m' ρ' _ hagree
  refine ⟨fun c => gradient (parts m c), fun c => changes (parts m c) (weight m c) (moment1 m c) (moment2 m c),
    fun c => newMoment1 (parts m c) (moment1 m c), fun c => newMoment2 (parts m c) (moment2 m c),
    (θ_run _ _ _).mono (fun r h c => ?_) (run_blocks m ρ),
    (θ_run _ _ _).mono (fun r h c => ⟨(h c).1.trans ?_, (h c).2.1.trans ?_, (h c).2.2.1.trans ?_, (h c).2.2.2.1.trans ?_,
      (h c).2.2.2.2⟩) (Cert.Reference14Ideal.Value.run (F := Ideal) m' ρ')⟩
  · obtain ⟨g, d, u, v⟩ := final m c
    exact ⟨(h c).1.trans g, (h c).2.1.trans d, (h c).2.2.1.trans u, (h c).2.2.2.1.trans v, (h c).2.2.2.2⟩
  all_goals
    simp only [(hagree c).1, (hagree c).2.1, (hagree c).2.2.1, (hagree c).2.2.2]
    funext y
    idx_vars y
    simp only [gradient, changes, newMoment1, newMoment2, change, firstMoment, secondMoment]
    pointwise

end Cert.UpdateIn

end
-- ==== Proof.UpdateOut.lean ====
/- The optimiser's step for the output projection: what the kernel leaves is the reference's. -/
module

public import proofs.«01_k».proof.Defs
public import proofs.«01_k».proof.Proof.AdamW
public import proofs.«01_k».proof.Proof.Gen.Kernel15Ideal.Value
public import proofs.«01_k».proof.Proof.Gen.Reference15Ideal.Run
public import Idealize.ShloMosaic.Lib.Pipeline.ValueKit
public import Idealize.ShloMosaic.Lib.Quiescent

@[expose] public section

set_option maxRecDepth 16384

noncomputable section

namespace Cert.UpdateOut

open Idealize.ShloMosaic Idealize.ShloMosaic.TcCoe Idealize.SL.Sem
open Cert.Kernel15Ideal Cert.Kernel15Ideal.Gen Cert.Kernel15Ideal.Value Cert.AdamW

variable (m : (ℓ : Loc nD τ sig) → Buf (Elt Ideal) ℓ) (c : Dev nD)

/-- The arguments: the parts of the gradient, the weights and their two moments. -/
abbrev parts : FVec Ideal S4x256x2048 .bf16 := m ((c : Thread nD τ).loc main_arg0)
abbrev weight : FVec Ideal S256x2048 .f32 := m ((c : Thread nD τ).loc main_arg1)
abbrev moment1 : FVec Ideal S256x2048 .f32 := m ((c : Thread nD τ).loc main_arg2)
abbrev moment2 : FVec Ideal S256x2048 .f32 := m ((c : Thread nD τ).loc main_arg3)

/-- Where the blocks of point `t` lie: all at block row `t`; there is one point. -/
theorem index_eq : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] := by decide +kernel

/-- The one point's blocks are the arguments. -/
theorem blocks_eq (t : Fin cfg0.N) :
    (∀ k (r : Fin 256) l, iblk m c 0 t (ix3 k r l) = parts m c (ix3 k r l))
    ∧ (∀ (r : Fin 256) l, iblk m c 1 t (ix2 r l) = weight m c (ix2 r l))
    ∧ (∀ (r : Fin 256) l, iblk m c 2 t (ix2 r l) = moment1 m c (ix2 r l))
    ∧ (∀ (r : Fin 256) l, iblk m c 3 t (ix2 r l) = moment2 m c (ix2 r l)) := by
  have h := index_eq t
  refine ⟨fun k r l => ?_, fun r l => ?_, fun r l => ?_, fun r l => ?_⟩ <;> blk_ext [iblk, h]

/-- What the kernel leaves: the sum of the parts, the change of the weights, and the two new moments. -/
theorem final : (dats m 0 c).arrAt 4 cfg0.N = gradient (parts m c)
    ∧ (dats m 0 c).arrAt 5 cfg0.N = changes (parts m c) (weight m c) (moment1 m c) (moment2 m c)
    ∧ (dats m 0 c).arrAt 6 cfg0.N = newMoment1 (parts m c) (moment1 m c)
    ∧ (dats m 0 c).arrAt 7 cfg0.N = newMoment2 (parts m c) (moment2 m c) := by
  refine ⟨(dats m 0 c).arrAt_eq_of_covers 4 _ (by decide +kernel) ?_, (dats m 0 c).arrAt_eq_of_covers 5 _ (by decide +kernel) ?_,
    (dats m 0 c).arrAt_eq_of_covers 6 _ (by decide +kernel) ?_, (dats m 0 c).arrAt_eq_of_covers 7 _ (by decide +kernel) ?_⟩
  all_goals
    intro t hf y
    have h := index_eq t
    have e := blocks_eq m c t
    blk_simp
    first | rw [after0_4]; unfold out0_4 | rw [after0_5]; unfold out0_5 | rw [after0_6]; unfold out0_6 | rw [after0_7]; unfold out0_7
    frame_out
    idx_vars y
    refine Eq.trans ?_ (congrArg _ (show ix2 y0 y1 = _ from Eq.symm (by blk_ext [h])))
    unfold_payloads
    pointwise
    simp only [e, c1 (κ := κ) rfl, c2 (κ := κ) rfl, mul_reciprocal1, mul_reciprocal2]
    simp only [gradient, changes, newMoment1, newMoment2, Fin.sum_univ_four]
    rfl

/-- The idealization names two constants, each a reciprocal of a divisor. -/
theorem named : Cert.preserves_Kernel15_Kernel15Ideal :=
  ⟨IdealRules.named_const.statement κ "c1" .f32 0x3FC48605#32 _ rfl, IdealRules.named_const.statement κ "c2" .f32 0x42C8E6D3#32 _ rfl⟩

/-- The reference leaves its arguments and has no semaphore. -/
theorem frame_reference : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

/-- The kernel's four results are the reference's. -/
theorem values : Cert.algebraic_Kernel15Ideal_Reference15Ideal := by
  intro m ρ m' ρ' _ hagree
  refine ⟨fun c => gradient (parts m c), fun c => changes (parts m c) (weight m c) (moment1 m c) (moment2 m c),
    fun c => newMoment1 (parts m c) (moment1 m c), fun c => newMoment2 (parts m c) (moment2 m c),
    (θ_run _ _ _).mono (fun r h c => ?_) (run_blocks m ρ),
    (θ_run _ _ _).mono (fun r h c => ⟨(h c).1.trans ?_, (h c).2.1.trans ?_, (h c).2.2.1.trans ?_, (h c).2.2.2.1.trans ?_,
      (h c).2.2.2.2⟩) (Cert.Reference15Ideal.Value.run (F := Ideal) m' ρ')⟩
  · obtain ⟨g, d, u, v⟩ := final m c
    exact ⟨(h c).1.trans g, (h c).2.1.trans d, (h c).2.2.1.trans u, (h c).2.2.2.1.trans v, (h c).2.2.2.2⟩
  all_goals
    simp only [(hagree c).1, (hagree c).2.1, (hagree c).2.2.1, (hagree c).2.2.2]
    funext y
    idx_vars y
    simp only [gradient, changes, newMoment1, newMoment2, change, firstMoment, secondMoment]
    pointwise

end Cert.UpdateOut

end
-- ==== Proof.UpdateUp.lean ====
/- The optimiser's step for the first feed-forward product: what the kernel leaves is the reference's. -/
module

public import proofs.«01_k».proof.Defs
public import proofs.«01_k».proof.Proof.AdamW
public import proofs.«01_k».proof.Proof.Gen.Kernel16Ideal.Value
public import proofs.«01_k».proof.Proof.Gen.Reference16Ideal.Run
public import Idealize.ShloMosaic.Lib.Pipeline.ValueKit
public import Idealize.ShloMosaic.Lib.Quiescent

@[expose] public section

set_option maxRecDepth 16384

noncomputable section

namespace Cert.UpdateUp

open Idealize.ShloMosaic Idealize.ShloMosaic.TcCoe Idealize.SL.Sem
open Cert.Kernel16Ideal Cert.Kernel16Ideal.Gen Cert.Kernel16Ideal.Value Cert.AdamW

variable (m : (ℓ : Loc nD τ sig) → Buf (Elt Ideal) ℓ) (c : Dev nD)

/-- The arguments: the parts of the gradient, the weights and their two moments. -/
abbrev parts : FVec Ideal S4x2048x1024 .bf16 := m ((c : Thread nD τ).loc main_arg0)
abbrev weight : FVec Ideal S2048x1024 .f32 := m ((c : Thread nD τ).loc main_arg1)
abbrev moment1 : FVec Ideal S2048x1024 .f32 := m ((c : Thread nD τ).loc main_arg2)
abbrev moment2 : FVec Ideal S2048x1024 .f32 := m ((c : Thread nD τ).loc main_arg3)

/-- Where the blocks of point `t` lie: all at block row `t`. -/
theorem index_eq : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] := by decide +kernel

theorem points_lt (t : Fin cfg0.N) : t.val < 4 := lt_of_lt_of_eq t.isLt (show cfg0.N = 4 from N_0)

/-- An argument's block at point `t` holds the argument's rows there. -/
theorem blocks_eq (t : Fin cfg0.N) :
    (∀ k (r : Fin 512) l, iblk m c 0 t (ix3 k r l) = parts m c (ix3 k ⟨t.val * 512 + r.val, by have := points_lt t; omega⟩ l))
    ∧ (∀ (r : Fin 512) l, iblk m c 1 t (ix2 r l) = weight m c (ix2 ⟨t.val * 512 + r.val, by have := points_lt t; omega⟩ l))
    ∧ (∀ (r : Fin 512) l, iblk m c 2 t (ix2 r l) = moment1 m c (ix2 ⟨t.val * 512 + r.val, by have := points_lt t; omega⟩ l))
    ∧ (∀ (r : Fin 512) l, iblk m c 3 t (ix2 r l) = moment2 m c (ix2 ⟨t.val * 512 + r.val, by have := points_lt t; omega⟩ l)) := by
  have h := index_eq t
  refine ⟨fun k r l => ?_, fun r l => ?_, fun r l => ?_, fun r l => ?_⟩ <;> blk_ext [iblk, h]

/-- What the kernel leaves: the sum of the parts, the change of the weights, and the two new moments. -/
theorem final : (dats m 0 c).arrAt 4 cfg0.N = gradient (parts m c)
    ∧ (dats m 0 c).arrAt 5 cfg0.N = changes (parts m c) (weight m c) (moment1 m c) (moment2 m c)
    ∧ (dats m 0 c).arrAt 6 cfg0.N = newMoment1 (parts m c) (moment1 m c)
    ∧ (dats m 0 c).arrAt 7 cfg0.N = newMoment2 (parts m c) (moment2 m c) := by
  refine ⟨(dats m 0 c).arrAt_eq_of_covers 4 _ (by decide +kernel) ?_, (dats m 0 c).arrAt_eq_of_covers 5 _ (by decide +kernel) ?_,
    (dats m 0 c).arrAt_eq_of_covers 6 _ (by decide +kernel) ?_, (dats m 0 c).arrAt_eq_of_covers 7 _ (by decide +kernel) ?_⟩
  all_goals
    intro t hf y
    have h := index_eq t
    have ht := points_lt t
    have e := blocks_eq m c t
    blk_simp
    first | rw [after0_4]; unfold out0_4 | rw [after0_5]; unfold out0_5 | rw [after0_6]; unfold out0_6 | rw [after0_7]; unfold out0_7
    frame_out
    idx_vars y
    refine Eq.trans ?_ (congrArg _ (show ix2 (⟨t.val * 512 + y0.val, by omega⟩ : Fin 2048) y1 = _ from by blk_ext [h]))
    unfold_payloads
    pointwise
    simp only [e, c1 (κ := κ) rfl, c2 (κ := κ) rfl, mul_reciprocal1, mul_reciprocal2]
    simp only [gradient, changes, newMoment1, newMoment2, Fin.sum_univ_four]
    rfl

/-- The idealization names two constants, each a reciprocal of a divisor. -/
theorem named : Cert.preserves_Kernel16_Kernel16Ideal :=
  ⟨IdealRules.named_const.statement κ "c1" .f32 0x3FC48605#32 _ rfl, IdealRules.named_const.statement κ "c2" .f32 0x42C8E6D3#32 _ rfl⟩

/-- The reference leaves its arguments and has no semaphore. -/
theorem frame_reference : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

/-- The kernel's four results are the reference's. -/
theorem values : Cert.algebraic_Kernel16Ideal_Reference16Ideal := by
  intro m ρ m' ρ' _ hagree
  refine ⟨fun c => gradient (parts m c), fun c => changes (parts m c) (weight m c) (moment1 m c) (moment2 m c),
    fun c => newMoment1 (parts m c) (moment1 m c), fun c => newMoment2 (parts m c) (moment2 m c),
    (θ_run _ _ _).mono (fun r h c => ?_) (run_blocks m ρ),
    (θ_run _ _ _).mono (fun r h c => ⟨(h c).1.trans ?_, (h c).2.1.trans ?_, (h c).2.2.1.trans ?_, (h c).2.2.2.1.trans ?_,
      (h c).2.2.2.2⟩) (Cert.Reference16Ideal.Value.run (F := Ideal) m' ρ')⟩
  · obtain ⟨g, d, u, v⟩ := final m c
    exact ⟨(h c).1.trans g, (h c).2.1.trans d, (h c).2.2.1.trans u, (h c).2.2.2.1.trans v, (h c).2.2.2.2⟩
  all_goals
    simp only [(hagree c).1, (hagree c).2.1, (hagree c).2.2.1, (hagree c).2.2.2]
    funext y
    idx_vars y
    simp only [gradient, changes, newMoment1, newMoment2, change, firstMoment, secondMoment]
    pointwise

end Cert.UpdateUp

end
-- ==== Proof.UpdateDown.lean ====
/- The optimiser's step for the second feed-forward product: what the kernel leaves is the reference's. -/
module

public import proofs.«01_k».proof.Defs
public import proofs.«01_k».proof.Proof.AdamW
public import proofs.«01_k».proof.Proof.Gen.Kernel17Ideal.Value
public import proofs.«01_k».proof.Proof.Gen.Reference17Ideal.Run
public import Idealize.ShloMosaic.Lib.Pipeline.ValueKit
public import Idealize.ShloMosaic.Lib.Quiescent

@[expose] public section

set_option maxRecDepth 16384

noncomputable section

namespace Cert.UpdateDown

open Idealize.ShloMosaic Idealize.ShloMosaic.TcCoe Idealize.SL.Sem
open Cert.Kernel17Ideal Cert.Kernel17Ideal.Gen Cert.Kernel17Ideal.Value Cert.AdamW

variable (m : (ℓ : Loc nD τ sig) → Buf (Elt Ideal) ℓ) (c : Dev nD)

/-- The arguments: the parts of the gradient, the weights and their two moments. -/
abbrev parts : FVec Ideal S4x1024x2048 .bf16 := m ((c : Thread nD τ).loc main_arg0)
abbrev weight : FVec Ideal S1024x2048 .f32 := m ((c : Thread nD τ).loc main_arg1)
abbrev moment1 : FVec Ideal S1024x2048 .f32 := m ((c : Thread nD τ).loc main_arg2)
abbrev moment2 : FVec Ideal S1024x2048 .f32 := m ((c : Thread nD τ).loc main_arg3)

/-- Where the blocks of point `t` lie: all at block row `t`. -/
theorem index_eq : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] := by decide +kernel

theorem points_lt (t : Fin cfg0.N) : t.val < 4 := lt_of_lt_of_eq t.isLt (show cfg0.N = 4 from N_0)

/-- An argument's block at point `t` holds the argument's rows there. -/
theorem blocks_eq (t : Fin cfg0.N) :
    (∀ k (r : Fin 256) l, iblk m c 0 t (ix3 k r l) = parts m c (ix3 k ⟨t.val * 256 + r.val, by have := points_lt t; omega⟩ l))
    ∧ (∀ (r : Fin 256) l, iblk m c 1 t (ix2 r l) = weight m c (ix2 ⟨t.val * 256 + r.val, by have := points_lt t; omega⟩ l))
    ∧ (∀ (r : Fin 256) l, iblk m c 2 t (ix2 r l) = moment1 m c (ix2 ⟨t.val * 256 + r.val, by have := points_lt t; omega⟩ l))
    ∧ (∀ (r : Fin 256) l, iblk m c 3 t (ix2 r l) = moment2 m c (ix2 ⟨t.val * 256 + r.val, by have := points_lt t; omega⟩ l)) := by
  have h := index_eq t
  refine ⟨fun k r l => ?_, fun r l => ?_, fun r l => ?_, fun r l => ?_⟩ <;> blk_ext [iblk, h]

/-- What the kernel leaves: the sum of the parts, the change of the weights, and the two new moments. -/
theorem final : (dats m 0 c).arrAt 4 cfg0.N = gradient (parts m c)
    ∧ (dats m 0 c).arrAt 5 cfg0.N = changes (parts m c) (weight m c) (moment1 m c) (moment2 m c)
    ∧ (dats m 0 c).arrAt 6 cfg0.N = newMoment1 (parts m c) (moment1 m c)
    ∧ (dats m 0 c).arrAt 7 cfg0.N = newMoment2 (parts m c) (moment2 m c) := by
  refine ⟨(dats m 0 c).arrAt_eq_of_covers 4 _ (by decide +kernel) ?_, (dats m 0 c).arrAt_eq_of_covers 5 _ (by decide +kernel) ?_,
    (dats m 0 c).arrAt_eq_of_covers 6 _ (by decide +kernel) ?_, (dats m 0 c).arrAt_eq_of_covers 7 _ (by decide +kernel) ?_⟩
  all_goals
    intro t hf y
    have h := index_eq t
    have ht := points_lt t
    have e := blocks_eq m c t
    blk_simp
    first | rw [after0_4]; unfold out0_4 | rw [after0_5]; unfold out0_5 | rw [after0_6]; unfold out0_6 | rw [after0_7]; unfold out0_7
    frame_out
    idx_vars y
    refine Eq.trans ?_ (congrArg _ (show ix2 (⟨t.val * 256 + y0.val, by omega⟩ : Fin 1024) y1 = _ from by blk_ext [h]))
    unfold_payloads
    pointwise
    simp only [e, c1 (κ := κ) rfl, c2 (κ := κ) rfl, mul_reciprocal1, mul_reciprocal2]
    simp only [gradient, changes, newMoment1, newMoment2, Fin.sum_univ_four]
    rfl

/-- The idealization names two constants, each a reciprocal of a divisor. -/
theorem named : Cert.preserves_Kernel17_Kernel17Ideal :=
  ⟨IdealRules.named_const.statement κ "c1" .f32 0x3FC48605#32 _ rfl, IdealRules.named_const.statement κ "c2" .f32 0x42C8E6D3#32 _ rfl⟩

/-- The reference leaves its arguments and has no semaphore. -/
theorem frame_reference : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

/-- The kernel's four results are the reference's. -/
theorem values : Cert.algebraic_Kernel17Ideal_Reference17Ideal := by
  intro m ρ m' ρ' _ hagree
  refine ⟨fun c => gradient (parts m c), fun c => changes (parts m c) (weight m c) (moment1 m c) (moment2 m c),
    fun c => newMoment1 (parts m c) (moment1 m c), fun c => newMoment2 (parts m c) (moment2 m c),
    (θ_run _ _ _).mono (fun r h c => ?_) (run_blocks m ρ),
    (θ_run _ _ _).mono (fun r h c => ⟨(h c).1.trans ?_, (h c).2.1.trans ?_, (h c).2.2.1.trans ?_, (h c).2.2.2.1.trans ?_,
      (h c).2.2.2.2⟩) (Cert.Reference17Ideal.Value.run (F := Ideal) m' ρ')⟩
  · obtain ⟨g, d, u, v⟩ := final m c
    exact ⟨(h c).1.trans g, (h c).2.1.trans d, (h c).2.2.1.trans u, (h c).2.2.2.1.trans v, (h c).2.2.2.2⟩
  all_goals
    simp only [(hagree c).1, (hagree c).2.1, (hagree c).2.2.1, (hagree c).2.2.2]
    funext y
    idx_vars y
    simp only [gradient, changes, newMoment1, newMoment2, change, firstMoment, secondMoment]
    pointwise

end Cert.UpdateDown

end
-- ==== Proof.UpdateGate.lean ====
/- The optimiser's step for the gated unit: what the kernel leaves is the reference's. -/
module

public import proofs.«01_k».proof.Defs
public import proofs.«01_k».proof.Proof.AdamW
public import proofs.«01_k».proof.Proof.Gen.Kernel18Ideal.Value
public import proofs.«01_k».proof.Proof.Gen.Reference18Ideal.Run
public import Idealize.ShloMosaic.Lib.Pipeline.ValueKit
public import Idealize.ShloMosaic.Lib.Quiescent

@[expose] public section

set_option maxRecDepth 16384

noncomputable section

namespace Cert.UpdateGate

open Idealize.ShloMosaic Idealize.ShloMosaic.TcCoe Idealize.SL.Sem
open Cert.Kernel18Ideal Cert.Kernel18Ideal.Gen Cert.Kernel18Ideal.Value Cert.AdamW

variable (m : (ℓ : Loc nD τ sig) → Buf (Elt Ideal) ℓ) (c : Dev nD)

/-- The arguments: the parts of the gradient, the weights and their two moments. -/
abbrev parts : FVec Ideal S4x128x1024 .f32 := m ((c : Thread nD τ).loc main_arg0)
abbrev weight : FVec Ideal S128x1024 .f32 := m ((c : Thread nD τ).loc main_arg1)
abbrev moment1 : FVec Ideal S128x1024 .f32 := m ((c : Thread nD τ).loc main_arg2)
abbrev moment2 : FVec Ideal S128x1024 .f32 := m ((c : Thread nD τ).loc main_arg3)

/-- Where the blocks of point `t` lie: all at block row `t`; there is one point. -/
theorem index_eq : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] := by decide +kernel

/-- The one point's blocks are the arguments. -/
theorem blocks_eq (t : Fin cfg0.N) :
    (∀ k (r : Fin 128) l, iblk m c 0 t (ix3 k r l) = parts m c (ix3 k r l))
    ∧ (∀ (r : Fin 128) l, iblk m c 1 t (ix2 r l) = weight m c (ix2 r l))
    ∧ (∀ (r : Fin 128) l, iblk m c 2 t (ix2 r l) = moment1 m c (ix2 r l))
    ∧ (∀ (r : Fin 128) l, iblk m c 3 t (ix2 r l) = moment2 m c (ix2 r l)) := by
  have h := index_eq t
  refine ⟨fun k r l => ?_, fun r l => ?_, fun r l => ?_, fun r l => ?_⟩ <;> blk_ext [iblk, h]

/-- What the kernel leaves: the sum of the parts, the change of the weights, and the two new moments. -/
theorem final : (dats m 0 c).arrAt 4 cfg0.N = gradient (parts m c)
    ∧ (dats m 0 c).arrAt 5 cfg0.N = changes (parts m c) (weight m c) (moment1 m c) (moment2 m c)
    ∧ (dats m 0 c).arrAt 6 cfg0.N = newMoment1 (parts m c) (moment1 m c)
    ∧ (dats m 0 c).arrAt 7 cfg0.N = newMoment2 (parts m c) (moment2 m c) := by
  refine ⟨(dats m 0 c).arrAt_eq_of_covers 4 _ (by decide +kernel) ?_, (dats m 0 c).arrAt_eq_of_covers 5 _ (by decide +kernel) ?_,
    (dats m 0 c).arrAt_eq_of_covers 6 _ (by decide +kernel) ?_, (dats m 0 c).arrAt_eq_of_covers 7 _ (by decide +kernel) ?_⟩
  all_goals
    intro t hf y
    have h := index_eq t
    have e := blocks_eq m c t
    blk_simp
    first | rw [after0_4]; unfold out0_4 | rw [after0_5]; unfold out0_5 | rw [after0_6]; unfold out0_6 | rw [after0_7]; unfold out0_7
    frame_out
    idx_vars y
    refine Eq.trans ?_ (congrArg _ (show ix2 y0 y1 = _ from Eq.symm (by blk_ext [h])))
    unfold_payloads
    pointwise
    simp only [e, c1 (κ := κ) rfl, c2 (κ := κ) rfl, mul_reciprocal1, mul_reciprocal2]
    simp only [gradient, changes, newMoment1, newMoment2, Fin.sum_univ_four]
    rfl

/-- The idealization names two constants, each a reciprocal of a divisor. -/
theorem named : Cert.preserves_Kernel18_Kernel18Ideal :=
  ⟨IdealRules.named_const.statement κ "c1" .f32 0x3FC48605#32 _ rfl, IdealRules.named_const.statement κ "c2" .f32 0x42C8E6D3#32 _ rfl⟩

/-- The reference leaves its arguments and has no semaphore. -/
theorem frame_reference : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

/-- The kernel's four results are the reference's. -/
theorem values : Cert.algebraic_Kernel18Ideal_Reference18Ideal := by
  intro m ρ m' ρ' _ hagree
  refine ⟨fun c => gradient (parts m c), fun c => changes (parts m c) (weight m c) (moment1 m c) (moment2 m c),
    fun c => newMoment1 (parts m c) (moment1 m c), fun c => newMoment2 (parts m c) (moment2 m c),
    (θ_run _ _ _).mono (fun r h c => ?_) (run_blocks m ρ),
    (θ_run _ _ _).mono (fun r h c => ⟨(h c).1.trans ?_, (h c).2.1.trans ?_, (h c).2.2.1.trans ?_, (h c).2.2.2.1.trans ?_,
      (h c).2.2.2.2⟩) (Cert.Reference18Ideal.Value.run (F := Ideal) m' ρ')⟩
  · obtain ⟨g, d, u, v⟩ := final m c
    exact ⟨(h c).1.trans g, (h c).2.1.trans d, (h c).2.2.1.trans u, (h c).2.2.2.1.trans v, (h c).2.2.2.2⟩
  all_goals
    simp only [(hagree c).1, (hagree c).2.1, (hagree c).2.2.1, (hagree c).2.2.2]
    funext y
    idx_vars y
    simp only [gradient, changes, newMoment1, newMoment2, change, firstMoment, secondMoment]
    pointwise

end Cert.UpdateGate

end
-- ==== Proof.UpdateModulation.lean ====
/- The optimiser's step for the modulation: what the kernel leaves is the reference's. -/
module

public import proofs.«01_k».proof.Defs
public import proofs.«01_k».proof.Proof.AdamW
public import proofs.«01_k».proof.Proof.Gen.Kernel19Ideal.Value
public import proofs.«01_k».proof.Proof.Gen.Reference19Ideal.Run
public import Idealize.ShloMosaic.Lib.Pipeline.ValueKit
public import Idealize.ShloMosaic.Lib.Quiescent

@[expose] public section

set_option maxRecDepth 16384

noncomputable section

namespace Cert.UpdateModulation

open Idealize.ShloMosaic Idealize.ShloMosaic.TcCoe Idealize.SL.Sem
open Cert.Kernel19Ideal Cert.Kernel19Ideal.Gen Cert.Kernel19Ideal.Value Cert.AdamW

variable (m : (ℓ : Loc nD τ sig) → Buf (Elt Ideal) ℓ) (c : Dev nD)

/-- The arguments: the parts of the gradient, the weights and their two moments. -/
abbrev parts : FVec Ideal S1x2048x1536 .f32 := m ((c : Thread nD τ).loc main_arg0)
abbrev weight : FVec Ideal S2048x1536 .f32 := m ((c : Thread nD τ).loc main_arg1)
abbrev moment1 : FVec Ideal S2048x1536 .f32 := m ((c : Thread nD τ).loc main_arg2)
abbrev moment2 : FVec Ideal S2048x1536 .f32 := m ((c : Thread nD τ).loc main_arg3)

/-- Where the blocks of point `t` lie: all at block row `t`. -/
theorem index_eq : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] := by decide +kernel

theorem points_lt (t : Fin cfg0.N) : t.val < 8 := lt_of_lt_of_eq t.isLt (show cfg0.N = 8 from N_0)

/-- An argument's block at point `t` holds the argument's rows there. -/
theorem blocks_eq (t : Fin cfg0.N) :
    (∀ k (r : Fin 256) l, iblk m c 0 t (ix3 k r l) = parts m c (ix3 k ⟨t.val * 256 + r.val, by have := points_lt t; omega⟩ l))
    ∧ (∀ (r : Fin 256) l, iblk m c 1 t (ix2 r l) = weight m c (ix2 ⟨t.val * 256 + r.val, by have := points_lt t; omega⟩ l))
    ∧ (∀ (r : Fin 256) l, iblk m c 2 t (ix2 r l) = moment1 m c (ix2 ⟨t.val * 256 + r.val, by have := points_lt t; omega⟩ l))
    ∧ (∀ (r : Fin 256) l, iblk m c 3 t (ix2 r l) = moment2 m c (ix2 ⟨t.val * 256 + r.val, by have := points_lt t; omega⟩ l)) := by
  have h := index_eq t
  refine ⟨fun k r l => ?_, fun r l => ?_, fun r l => ?_, fun r l => ?_⟩ <;> blk_ext [iblk, h]

/-- What the kernel leaves: the sum of the parts, the change of the weights, and the two new moments. -/
theorem final : (dats m 0 c).arrAt 4 cfg0.N = gradient (parts m c)
    ∧ (dats m 0 c).arrAt 5 cfg0.N = changes (parts m c) (weight m c) (moment1 m c) (moment2 m c)
    ∧ (dats m 0 c).arrAt 6 cfg0.N = newMoment1 (parts m c) (moment1 m c)
    ∧ (dats m 0 c).arrAt 7 cfg0.N = newMoment2 (parts m c) (moment2 m c) := by
  refine ⟨(dats m 0 c).arrAt_eq_of_covers 4 _ (by decide +kernel) ?_, (dats m 0 c).arrAt_eq_of_covers 5 _ (by decide +kernel) ?_,
    (dats m 0 c).arrAt_eq_of_covers 6 _ (by decide +kernel) ?_, (dats m 0 c).arrAt_eq_of_covers 7 _ (by decide +kernel) ?_⟩
  all_goals
    intro t hf y
    have h := index_eq t
    have ht := points_lt t
    have e := blocks_eq m c t
    blk_simp
    first | rw [after0_4]; unfold out0_4 | rw [after0_5]; unfold out0_5 | rw [after0_6]; unfold out0_6 | rw [after0_7]; unfold out0_7
    frame_out
    idx_vars y
    refine Eq.trans ?_ (congrArg _ (show ix2 (⟨t.val * 256 + y0.val, by omega⟩ : Fin 2048) y1 = _ from by blk_ext [h]))
    unfold_payloads
    pointwise
    simp only [e, c1 (κ := κ) rfl, c2 (κ := κ) rfl, mul_reciprocal1, mul_reciprocal2]
    simp only [gradient, changes, newMoment1, newMoment2, Fin.sum_univ_one]
    rfl

/-- The idealization names two constants, each a reciprocal of a divisor. -/
theorem named : Cert.preserves_Kernel19_Kernel19Ideal :=
  ⟨IdealRules.named_const.statement κ "c1" .f32 0x3FC48605#32 _ rfl, IdealRules.named_const.statement κ "c2" .f32 0x42C8E6D3#32 _ rfl⟩

/-- The reference leaves its arguments and has no semaphore. -/
theorem frame_reference : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

/-- The kernel's four results are the reference's. -/
theorem values : Cert.algebraic_Kernel19Ideal_Reference19Ideal := by
  intro m ρ m' ρ' _ hagree
  refine ⟨fun c => gradient (parts m c), fun c => changes (parts m c) (weight m c) (moment1 m c) (moment2 m c),
    fun c => newMoment1 (parts m c) (moment1 m c), fun c => newMoment2 (parts m c) (moment2 m c),
    (θ_run _ _ _).mono (fun r h c => ?_) (run_blocks m ρ),
    (θ_run _ _ _).mono (fun r h c => ⟨(h c).1.trans ?_, (h c).2.1.trans ?_, (h c).2.2.1.trans ?_, (h c).2.2.2.1.trans ?_,
      (h c).2.2.2.2⟩) (Cert.Reference19Ideal.Value.run (F := Ideal) m' ρ')⟩
  · obtain ⟨g, d, u, v⟩ := final m c
    exact ⟨(h c).1.trans g, (h c).2.1.trans d, (h c).2.2.1.trans u, (h c).2.2.2.1.trans v, (h c).2.2.2.2⟩
  all_goals
    simp only [(hagree c).1, (hagree c).2.1, (hagree c).2.2.1, (hagree c).2.2.2]
    funext y
    idx_vars y
    simp only [gradient, changes, newMoment1, newMoment2, change, firstMoment, secondMoment]
    pointwise

end Cert.UpdateModulation

end
-- ==== Proof.UpdateLora.lean ====
/- The optimiser's step for the RWKV low-rank maps, packed in rows: what the kernel leaves is the reference's. -/
module

public import proofs.«01_k».proof.Defs
public import proofs.«01_k».proof.Proof.AdamW
public import proofs.«01_k».proof.Proof.Gen.Kernel20Ideal.Value
public import proofs.«01_k».proof.Proof.Gen.Reference20Ideal.Run
public import Idealize.ShloMosaic.Lib.Pipeline.ValueKit
public import Idealize.ShloMosaic.Lib.Quiescent

@[expose] public section

set_option maxRecDepth 16384

noncomputable section

namespace Cert.UpdateLora

open Idealize.ShloMosaic Idealize.ShloMosaic.TcCoe Idealize.SL.Sem
open Cert.Kernel20Ideal Cert.Kernel20Ideal.Gen Cert.Kernel20Ideal.Value Cert.AdamW

variable (m : (ℓ : Loc nD τ sig) → Buf (Elt Ideal) ℓ) (c : Dev nD)

/-- The arguments: the parts of the gradient, the weights and their two moments. -/
abbrev parts : FVec Ideal S4x432x128 .f32 := m ((c : Thread nD τ).loc main_arg0)
abbrev weight : FVec Ideal S432x128 .f32 := m ((c : Thread nD τ).loc main_arg1)
abbrev moment1 : FVec Ideal S432x128 .f32 := m ((c : Thread nD τ).loc main_arg2)
abbrev moment2 : FVec Ideal S432x128 .f32 := m ((c : Thread nD τ).loc main_arg3)

/-- Where the blocks of point `t` lie: all at block row `t`; there is one point. -/
theorem index_eq : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] := by decide +kernel

/-- The one point's blocks are the arguments. -/
theorem blocks_eq (t : Fin cfg0.N) :
    (∀ k (r : Fin 432) l, iblk m c 0 t (ix3 k r l) = parts m c (ix3 k r l))
    ∧ (∀ (r : Fin 432) l, iblk m c 1 t (ix2 r l) = weight m c (ix2 r l))
    ∧ (∀ (r : Fin 432) l, iblk m c 2 t (ix2 r l) = moment1 m c (ix2 r l))
    ∧ (∀ (r : Fin 432) l, iblk m c 3 t (ix2 r l) = moment2 m c (ix2 r l)) := by
  have h := index_eq t
  refine ⟨fun k r l => ?_, fun r l => ?_, fun r l => ?_, fun r l => ?_⟩ <;> blk_ext [iblk, h]

/-- What the kernel leaves: the sum of the parts, the change of the weights, and the two new moments. -/
theorem final : (dats m 0 c).arrAt 4 cfg0.N = gradient (parts m c)
    ∧ (dats m 0 c).arrAt 5 cfg0.N = changes (parts m c) (weight m c) (moment1 m c) (moment2 m c)
    ∧ (dats m 0 c).arrAt 6 cfg0.N = newMoment1 (parts m c) (moment1 m c)
    ∧ (dats m 0 c).arrAt 7 cfg0.N = newMoment2 (parts m c) (moment2 m c) := by
  refine ⟨(dats m 0 c).arrAt_eq_of_covers 4 _ (by decide +kernel) ?_, (dats m 0 c).arrAt_eq_of_covers 5 _ (by decide +kernel) ?_,
    (dats m 0 c).arrAt_eq_of_covers 6 _ (by decide +kernel) ?_, (dats m 0 c).arrAt_eq_of_covers 7 _ (by decide +kernel) ?_⟩
  all_goals
    intro t hf y
    have h := index_eq t
    have e := blocks_eq m c t
    blk_simp
    first | rw [after0_4]; unfold out0_4 | rw [after0_5]; unfold out0_5 | rw [after0_6]; unfold out0_6 | rw [after0_7]; unfold out0_7
    frame_out
    idx_vars y
    refine Eq.trans ?_ (congrArg _ (show ix2 y0 y1 = _ from Eq.symm (by blk_ext [h])))
    unfold_payloads
    pointwise
    simp only [e, c1 (κ := κ) rfl, c2 (κ := κ) rfl, mul_reciprocal1, mul_reciprocal2]
    simp only [gradient, changes, newMoment1, newMoment2, Fin.sum_univ_four]
    rfl

/-- The idealization names two constants, each a reciprocal of a divisor. -/
theorem named : Cert.preserves_Kernel20_Kernel20Ideal :=
  ⟨IdealRules.named_const.statement κ "c1" .f32 0x3FC48605#32 _ rfl, IdealRules.named_const.statement κ "c2" .f32 0x42C8E6D3#32 _ rfl⟩

/-- The reference leaves its arguments and has no semaphore. -/
theorem frame_reference : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

/-- The kernel's four results are the reference's. -/
theorem values : Cert.algebraic_Kernel20Ideal_Reference20Ideal := by
  intro m ρ m' ρ' _ hagree
  refine ⟨fun c => gradient (parts m c), fun c => changes (parts m c) (weight m c) (moment1 m c) (moment2 m c),
    fun c => newMoment1 (parts m c) (moment1 m c), fun c => newMoment2 (parts m c) (moment2 m c),
    (θ_run _ _ _).mono (fun r h c => ?_) (run_blocks m ρ),
    (θ_run _ _ _).mono (fun r h c => ⟨(h c).1.trans ?_, (h c).2.1.trans ?_, (h c).2.2.1.trans ?_, (h c).2.2.2.1.trans ?_,
      (h c).2.2.2.2⟩) (Cert.Reference20Ideal.Value.run (F := Ideal) m' ρ')⟩
  · obtain ⟨g, d, u, v⟩ := final m c
    exact ⟨(h c).1.trans g, (h c).2.1.trans d, (h c).2.2.1.trans u, (h c).2.2.2.1.trans v, (h c).2.2.2.2⟩
  all_goals
    simp only [(hagree c).1, (hagree c).2.1, (hagree c).2.2.1, (hagree c).2.2.2]
    funext y
    idx_vars y
    simp only [gradient, changes, newMoment1, newMoment2, change, firstMoment, secondMoment]
    pointwise

end Cert.UpdateLora

end
-- ==== Proof.UpdateSmall.lean ====
/- The optimiser's step for the small parameters, packed in rows: what the kernel leaves is the reference's. -/
module

public import proofs.«01_k».proof.Defs
public import proofs.«01_k».proof.Proof.AdamW
public import proofs.«01_k».proof.Proof.Gen.Kernel21Ideal.Value
public import proofs.«01_k».proof.Proof.Gen.Reference21Ideal.Run
public import Idealize.ShloMosaic.Lib.Pipeline.ValueKit
public import Idealize.ShloMosaic.Lib.Quiescent

@[expose] public section

set_option maxRecDepth 16384

noncomputable section

namespace Cert.UpdateSmall

open Idealize.ShloMosaic Idealize.ShloMosaic.TcCoe Idealize.SL.Sem
open Cert.Kernel21Ideal Cert.Kernel21Ideal.Gen Cert.Kernel21Ideal.Value Cert.AdamW

variable (m : (ℓ : Loc nD τ sig) → Buf (Elt Ideal) ℓ) (c : Dev nD)

/-- The arguments: the parts of the gradient, the weights and their two moments. -/
abbrev parts : FVec Ideal S8x2440x128 .f32 := m ((c : Thread nD τ).loc main_arg0)
abbrev weight : FVec Ideal S2440x128 .f32 := m ((c : Thread nD τ).loc main_arg1)
abbrev moment1 : FVec Ideal S2440x128 .f32 := m ((c : Thread nD τ).loc main_arg2)
abbrev moment2 : FVec Ideal S2440x128 .f32 := m ((c : Thread nD τ).loc main_arg3)

/-- Where the blocks of point `t` lie: all at block row `t`; there is one point. -/
theorem index_eq : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] := by decide +kernel

/-- The one point's blocks are the arguments. -/
theorem blocks_eq (t : Fin cfg0.N) :
    (∀ k (r : Fin 2440) l, iblk m c 0 t (ix3 k r l) = parts m c (ix3 k r l))
    ∧ (∀ (r : Fin 2440) l, iblk m c 1 t (ix2 r l) = weight m c (ix2 r l))
    ∧ (∀ (r : Fin 2440) l, iblk m c 2 t (ix2 r l) = moment1 m c (ix2 r l))
    ∧ (∀ (r : Fin 2440) l, iblk m c 3 t (ix2 r l) = moment2 m c (ix2 r l)) := by
  have h := index_eq t
  refine ⟨fun k r l => ?_, fun r l => ?_, fun r l => ?_, fun r l => ?_⟩ <;> blk_ext [iblk, h]

/-- What the kernel leaves: the sum of the parts, the change of the weights, and the two new moments. -/
theorem final : (dats m 0 c).arrAt 4 cfg0.N = gradient (parts m c)
    ∧ (dats m 0 c).arrAt 5 cfg0.N = changes (parts m c) (weight m c) (moment1 m c) (moment2 m c)
    ∧ (dats m 0 c).arrAt 6 cfg0.N = newMoment1 (parts m c) (moment1 m c)
    ∧ (dats m 0 c).arrAt 7 cfg0.N = newMoment2 (parts m c) (moment2 m c) := by
  refine ⟨(dats m 0 c).arrAt_eq_of_covers 4 _ (by decide +kernel) ?_, (dats m 0 c).arrAt_eq_of_covers 5 _ (by decide +kernel) ?_,
    (dats m 0 c).arrAt_eq_of_covers 6 _ (by decide +kernel) ?_, (dats m 0 c).arrAt_eq_of_covers 7 _ (by decide +kernel) ?_⟩
  all_goals
    intro t hf y
    have h := index_eq t
    have e := blocks_eq m c t
    blk_simp
    first | rw [after0_4]; unfold out0_4 | rw [after0_5]; unfold out0_5 | rw [after0_6]; unfold out0_6 | rw [after0_7]; unfold out0_7
    frame_out
    idx_vars y
    refine Eq.trans ?_ (congrArg _ (show ix2 y0 y1 = _ from Eq.symm (by blk_ext [h])))
    unfold_payloads
    pointwise
    simp only [e, c1 (κ := κ) rfl, c2 (κ := κ) rfl, mul_reciprocal1, mul_reciprocal2]
    simp only [gradient, changes, newMoment1, newMoment2, Fin.sum_univ_eight]
    rfl

/-- The idealization names two constants, each a reciprocal of a divisor. -/
theorem named : Cert.preserves_Kernel21_Kernel21Ideal :=
  ⟨IdealRules.named_const.statement κ "c1" .f32 0x3FC48605#32 _ rfl, IdealRules.named_const.statement κ "c2" .f32 0x42C8E6D3#32 _ rfl⟩

/-- The reference leaves its arguments and has no semaphore. -/
theorem frame_reference : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

/-- The kernel's four results are the reference's. -/
theorem values : Cert.algebraic_Kernel21Ideal_Reference21Ideal := by
  intro m ρ m' ρ' _ hagree
  refine ⟨fun c => gradient (parts m c), fun c => changes (parts m c) (weight m c) (moment1 m c) (moment2 m c),
    fun c => newMoment1 (parts m c) (moment1 m c), fun c => newMoment2 (parts m c) (moment2 m c),
    (θ_run _ _ _).mono (fun r h c => ?_) (run_blocks m ρ),
    (θ_run _ _ _).mono (fun r h c => ⟨(h c).1.trans ?_, (h c).2.1.trans ?_, (h c).2.2.1.trans ?_, (h c).2.2.2.1.trans ?_,
      (h c).2.2.2.2⟩) (Cert.Reference21Ideal.Value.run (F := Ideal) m' ρ')⟩
  · obtain ⟨g, d, u, v⟩ := final m c
    exact ⟨(h c).1.trans g, (h c).2.1.trans d, (h c).2.2.1.trans u, (h c).2.2.2.1.trans v, (h c).2.2.2.2⟩
  all_goals
    simp only [(hagree c).1, (hagree c).2.1, (hagree c).2.2.1, (hagree c).2.2.2]
    funext y
    idx_vars y
    simp only [gradient, changes, newMoment1, newMoment2, change, firstMoment, secondMoment]
    pointwise

end Cert.UpdateSmall

end
-- ==== Proof.NormGrad.lean ====
/- The first norm's gradients: what the kernel leaves is the reference's, the gradient in the input tile by tile, the
   gradients in the parameters summed over the tiles. -/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Pointwise
public import Idealize.ShloMosaic.Lib.StableHlo.ReadAt
public import Idealize.ShloMosaic.Lib.Pipeline.ReadBack
public import Idealize.ShloMosaic.Lib.Quiescent

@[expose] public section

set_option maxRecDepth 16384

noncomputable section

namespace Cert.NormGrad

open Idealize.ShloMosaic Idealize.ShloMosaic.TcCoe Idealize.SL.Sem
open Cert.Kernel22Ideal Cert.Kernel22Ideal.Gen Cert.Kernel22Ideal.Value

/-- A row's mean square, with what the norm adds to it. -/
def meanSquare (x : Fin 2048 → EReal) : EReal :=
  Ideal.div (∑ k, x k * x k) (Ideal.ofBits .f32 0x45000000#32) + Ideal.ofBits .f32 0x358637BD#32

/-- A row's factor in the norm. -/
def factor (x : Fin 2048 → EReal) : EReal := Ideal.rsqrt (meanSquare x)

/-- The incoming gradient at one entry, through the modulation's scale. -/
def scaled (h s : EReal) : EReal := h * (Ideal.ofBits .f32 0x3F800000#32 + s)

/-- The gradient in a row that goes through the row's mean square, as a multiple of the row. -/
def slope (x h g s : Fin 2048 → EReal) : EReal :=
  Ideal.div ((∑ k, x k * (scaled (h k) (s k) * g k)) * (Ideal.ofBits .f32 0xBF000000#32 * Ideal.div (factor x) (meanSquare x)))
    (Ideal.ofBits .f32 0x45000000#32)

/-- The gradient in a row's entry `j`, on top of `d`, which comes past the norm. -/
def rowGradient (d : EReal) (x h g s : Fin 2048 → EReal) (j : Fin 2048) : EReal :=
  d + (scaled (h j) (s j) * g j * factor x + x j * slope x h g s + slope x h g s * x j)

variable {n : ℕ}

/-- The gradients on arrays of `n` rows: in the input, -/
def inputGradient (d h x : FVec Ideal ⟨2, ![n, 2048]⟩ .f32) (g s : FVec Ideal S1x2048 .f32) (a : Fin n) (j : Fin 2048) : EReal :=
  rowGradient (d (ix2 a j)) (fun k => x (ix2 a k)) (fun k => h (ix2 a k)) (fun k => g (ix2 0 k)) (fun k => s (ix2 0 k)) j

/-- what row `a` gives to the gain's gradient, -/
def gainPart (h x : FVec Ideal ⟨2, ![n, 2048]⟩ .f32) (s : FVec Ideal S1x2048 .f32) (a : Fin n) (j : Fin 2048) : EReal :=
  x (ix2 a j) * factor (fun k => x (ix2 a k)) * scaled (h (ix2 a j)) (s (ix2 0 j))

/-- and to the scale's. -/
def scalePart (h x : FVec Ideal ⟨2, ![n, 2048]⟩ .f32) (g : FVec Ideal S1x2048 .f32) (a : Fin n) (j : Fin 2048) : EReal :=
  x (ix2 a j) * factor (fun k => x (ix2 a k)) * g (ix2 0 j) * h (ix2 a j)

/-- The kernel's values of one tile are these gradients of its rows. -/
theorem tile_input (d h x : FVec Ideal S256x2048 .f32) (g s : FVec Ideal S1x2048 .f32) (a : Fin 256) (j : Fin 2048) :
    k0_pay1 (F := Ideal) d x (k0_pay10 x) (k0_pay18 h x g s) (k0_pay19 h x g s) (ix2 a j) = inputGradient d h x g s a j := by
  unfold_payloads
  unfold inputGradient rowGradient slope factor meanSquare scaled
  pointwise
  simp only [Finset.univ_unique, Finset.sum_singleton]

theorem tile_gain (h x : FVec Ideal S256x2048 .f32) (s : FVec Ideal S1x2048 .f32) (j : Fin 2048) :
    k0_pay16 (F := Ideal) h x s (ix2 0 j) = ∑ a, gainPart h x s a j := by
  unfold_payloads
  unfold gainPart factor meanSquare scaled
  pointwise

theorem tile_scale (h x : FVec Ideal S256x2048 .f32) (g : FVec Ideal S1x2048 .f32) (j : Fin 2048) :
    k0_pay14 (F := Ideal) h x g (ix2 0 j) = ∑ a, scalePart h x g a j := by
  unfold_payloads
  unfold scalePart factor meanSquare
  pointwise

theorem tile_shift (h : FVec Ideal S256x2048 .f32) (j : Fin 2048) :
    k0_pay13 (F := Ideal) h (ix2 0 j) = ∑ a, (h (ix2 a j) : EReal) := by
  unfold_payloads
  pointwise

variable (m : (ℓ : Loc nD τ sig) → Buf (Elt Ideal) ℓ) (c : Dev nD)

/-- The arguments: the gradient that comes past the norm, the one that comes through it, the input, the gain and the scale. -/
abbrev past : FVec Ideal S2048x2048 .f32 := m ((c : Thread nD τ).loc main_arg0)
abbrev incoming : FVec Ideal S2048x2048 .f32 := m ((c : Thread nD τ).loc main_arg1)
abbrev input : FVec Ideal S2048x2048 .f32 := m ((c : Thread nD τ).loc main_arg2)
abbrev gain : FVec Ideal S1x2048 .f32 := m ((c : Thread nD τ).loc main_arg3)
abbrev scale : FVec Ideal S1x2048 .f32 := m ((c : Thread nD τ).loc main_arg4)

/-- Where the blocks of point `t` lie: rows `256 t` on, and the whole rows of the parameters. -/
theorem index_eq : ∀ t : Fin cfg0.N, win0_0.index t = ![t.val, 0] ∧ win0_1.index t = ![t.val, 0] ∧ win0_2.index t = ![t.val, 0]
    ∧ win0_3.index t = ![0, 0] ∧ win0_4.index t = ![0, 0] ∧ win0_6.index t = ![t.val, 0]
    ∧ win0_7.index t = ![0, 0] ∧ win0_8.index t = ![0, 0] ∧ win0_9.index t = ![0, 0] := by decide +kernel

theorem points_lt (t : Fin cfg0.N) : t.val < 8 := lt_of_lt_of_eq t.isLt (show cfg0.N = 8 from N_0)

/-- Row `a` of tile `t`. -/
abbrev row (t : Fin cfg0.N) (a : Fin 256) : Fin 2048 := ⟨t.val * 256 + a.val, by have := points_lt t; omega⟩

theorem blocks_eq (t : Fin cfg0.N) :
    (∀ (a : Fin 256) k, iblk m c 0 t (ix2 a k) = past m c (ix2 (row t a) k))
    ∧ (∀ (a : Fin 256) k, iblk m c 1 t (ix2 a k) = incoming m c (ix2 (row t a) k))
    ∧ (∀ (a : Fin 256) k, iblk m c 2 t (ix2 a k) = input m c (ix2 (row t a) k))
    ∧ (∀ (a : Fin 1) k, iblk m c 3 t (ix2 a k) = gain m c (ix2 a k))
    ∧ (∀ (a : Fin 1) k, iblk m c 4 t (ix2 a k) = scale m c (ix2 a k)) := by
  have h := index_eq t
  refine ⟨fun a k => ?_, fun a k => ?_, fun a k => ?_, fun a k => ?_, fun a k => ?_⟩ <;> blk_ext [iblk, h]

/-- What row `r` gives to the three parameters' gradients: the gain's, the scale's, the shift's. -/
def part (i : Fin 3) (r j : Fin 2048) : EReal :=
  match i with
  | 0 => gainPart (incoming m c) (input m c) (scale m c) r j
  | 1 => scalePart (incoming m c) (input m c) (gain m c) r j
  | 2 => incoming m c (ix2 r j)

/-- What the three gradients hold after point `n`. -/
def held (i : Fin 3) (n : ℕ) (h : n < cfg0.N) : S1x2048.Idx → EReal :=
  match i with
  | 0 => (outsAt0 m c n h).2.1
  | 1 => (outsAt0 m c n h).2.2.1
  | 2 => (outsAt0 m c n h).2.2.2

/-- What point `t` adds to them. -/
def term (i : Fin 3) (t : Fin cfg0.N) (y : S1x2048.Idx) : EReal := ∑ a : Fin 256, part m c i (row t a) (y 1)

theorem held_first (i : Fin 3) (t : Fin cfg0.N) (h : t.val % 8 = 0) (y : S1x2048.Idx) :
    held m c i t.val t.isLt y = (fun _ => 0 : S1x2048.Idx → EReal) y + term m c i t y := by
  have e := blocks_eq m c t
  unfold held term part
  idx_vars y
  fin_cases i
  all_goals
    dsimp only
    rw [outsAt0_A m c t h]
    dsimp only
    frame_out
    obtain rfl : y0 = 0 := Subsingleton.elim _ _
    first | unfold k0_pay5 k0_pay2 | unfold k0_pay6 k0_pay3 | unfold k0_pay7 k0_pay4
    pointwise
    simp only [tile_gain, tile_scale, tile_shift, gainPart, scalePart, e]

theorem held_next (i : Fin 3) (t : Fin cfg0.N) (h : ¬t.val % 8 = 0) (y : S1x2048.Idx) :
    held m c i t.val t.isLt y = held m c i (t.val - 1) (Nat.lt_of_le_of_lt (Nat.sub_le _ _) t.isLt) y + term m c i t y := by
  have e := blocks_eq m c t
  unfold held term part
  idx_vars y
  fin_cases i
  all_goals
    dsimp only
    rw [outsAt0_B m c t h]
    dsimp only
    frame_out
    obtain rfl : y0 = 0 := Subsingleton.elim _ _
    first | unfold k0_pay5 | unfold k0_pay6 | unfold k0_pay7
    pointwise
    simp only [tile_gain, tile_scale, tile_shift, gainPart, scalePart, e]

/-- The gradient in the input, and those in the parameters: every row gives its part. -/
def gradient (d h x : FVec Ideal S2048x2048 .f32) (g s : FVec Ideal S1x2048 .f32) : FVec Ideal S2048x2048 .f32 :=
  fun y => inputGradient d h x g s (y 0) (y 1)
def gainGradient (h x : FVec Ideal S2048x2048 .f32) (s : FVec Ideal S1x2048 .f32) : FVec Ideal S1x2048 .f32 :=
  fun y => ∑ a, gainPart h x s a (y 1)
def scaleGradient (h x : FVec Ideal S2048x2048 .f32) (g : FVec Ideal S1x2048 .f32) : FVec Ideal S1x2048 .f32 :=
  fun y => ∑ a, scalePart h x g a (y 1)
def shiftGradient (h : FVec Ideal S2048x2048 .f32) : FVec Ideal S1x2048 .f32 :=
  fun y => ∑ a, (h (ix2 a (y 1)) : EReal)

/-- At the last point the sums are over all rows. -/
theorem held_last (i : Fin 3) (t : Fin cfg0.N) (h : t.val % 8 = 7) (y : S1x2048.Idx) :
    held m c i t.val t.isLt y = ∑ r : Fin 2048, part m c i r (y 1) := by
  have ht := points_lt t
  refine (Pipeline.eq_sum_fin_of_reset_step_apply_of_flush (held m c i) 8 (fun _ => 0) (term m c i) (held_first m c i)
    (held_next m c i) t h y).trans ((zero_add _).trans ?_)
  unfold term
  refine Fin.sum_mul_add_congr (fun s k hl => ?_)
  refine congrArg (fun r => part m c i r (y 1)) (Fin.ext ?_)
  dsimp only
  omega

theorem final_input : (dats m 0 c).arrAt 6 cfg0.N
    = gradient (past m c) (incoming m c) (input m c) (gain m c) (scale m c) := by
  refine (dats m 0 c).arrAt_eq_of_covers 6 _ (by decide +kernel) fun t hf y => ?_
  have h := index_eq t
  have e := blocks_eq m c t
  blk_simp
  rw [after0_6]
  idx_vars y
  have hj : (win0_6.blk t).view.emb (ix2 y0 y1) = ix2 (row t y0) y1 := by blk_ext [h]
  rw [hj]
  by_cases h0 : t.val % 8 = 0
  · rw [outsAt0_A m c t h0]
    dsimp only
    frame_out
    simp only [tile_input, gradient, inputGradient, e]
    rfl
  · rw [outsAt0_B m c t h0]
    dsimp only
    frame_out
    simp only [tile_input, gradient, inputGradient, e]
    rfl

theorem final_parameters :
    (dats m 0 c).arrAt 7 cfg0.N = gainGradient (incoming m c) (input m c) (scale m c)
    ∧ (dats m 0 c).arrAt 8 cfg0.N = scaleGradient (incoming m c) (input m c) (gain m c)
    ∧ (dats m 0 c).arrAt 9 cfg0.N = shiftGradient (incoming m c) := by
  refine ⟨(dats m 0 c).arrAt_eq_of_covers 7 _ (by decide +kernel) fun t hf y => ?_,
    (dats m 0 c).arrAt_eq_of_covers 8 _ (by decide +kernel) fun t hf y => ?_,
    (dats m 0 c).arrAt_eq_of_covers 9 _ (by decide +kernel) fun t hf y => ?_⟩
  · have h := index_eq t
    blk_simp
    rw [after0_7]
    refine (held_last m c 0 t ((flush0_7 t).mp hf) y).trans ?_
    idx_vars y
    exact congrArg (gainGradient _ _ _) (show ix2 y0 y1 = _ from Eq.symm (by blk_ext [h]))
  · have h := index_eq t
    blk_simp
    rw [after0_8]
    refine (held_last m c 1 t ((flush0_8 t).mp hf) y).trans ?_
    idx_vars y
    exact congrArg (scaleGradient _ _ _) (show ix2 y0 y1 = _ from Eq.symm (by blk_ext [h]))
  · have h := index_eq t
    blk_simp
    rw [after0_9]
    refine (held_last m c 2 t ((flush0_9 t).mp hf) y).trans ?_
    idx_vars y
    exact congrArg (shiftGradient _) (show ix2 y0 y1 = _ from Eq.symm (by blk_ext [h]))

/-- The reference leaves its arguments and has no semaphore. -/
theorem frame_reference : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

/-- The kernel's four results are the reference's. -/
theorem values : Cert.algebraic_Kernel22Ideal_Reference22Ideal := by
  intro m ρ m' ρ' _ hagree
  refine ⟨fun c => gradient (past m c) (incoming m c) (input m c) (gain m c) (scale m c),
    fun c => gainGradient (incoming m c) (input m c) (scale m c), fun c => scaleGradient (incoming m c) (input m c) (gain m c),
    fun c => shiftGradient (incoming m c),
    (θ_run _ _ _).mono (fun r h c => ?_) (run_blocks m ρ),
    (θ_run _ _ _).mono (fun r h c => ⟨(h c).1.trans ?_, (h c).2.1.trans ?_, (h c).2.2.1.trans ?_, (h c).2.2.2.1.trans ?_,
      (h c).2.2.2.2⟩) (Cert.Reference22Ideal.Value.run (F := Ideal) m' ρ')⟩
  · obtain ⟨g, s, b⟩ := final_parameters m c
    exact ⟨(h c).1.trans (final_input m c), (h c).2.1.trans g, (h c).2.2.1.trans s, (h c).2.2.2.1.trans b, (h c).2.2.2.2⟩
  case' refine_2 => unfold Cert.Reference22Ideal.Value.res_main_v48
  all_goals
    obtain ⟨h0, h1, h2, h3, h4, -⟩ := hagree c
    simp only [h0, h1, h2, h3, h4]
    funext y
    idx_vars y
    simp only [gradient, gainGradient, scaleGradient, shiftGradient, inputGradient, gainPart, scalePart, rowGradient, slope, factor,
      meanSquare, scaled]
    pointwise
  simp only [Finset.univ_unique, Finset.sum_singleton]

end Cert.NormGrad

end
-- ==== Proof.UpdateLogStep.lean ====
/- The optimiser's step for `s5_log_step`, whose gradient comes in 512 parts: what the kernel leaves is the reference's. -/
module

public import proofs.«01_k».proof.Defs
public import proofs.«01_k».proof.Proof.AdamW
public import proofs.«01_k».proof.Proof.Gen.Kernel23Ideal.Frame
public import proofs.«01_k».proof.Proof.Gen.Reference23Ideal.Run
public import Idealize.ShloMosaic.Lib.Pipeline.ValueKit
public import Idealize.ShloMosaic.Lib.Quiescent

@[expose] public section

set_option maxRecDepth 16384

noncomputable section

namespace Cert.UpdateLogStep

open Idealize.ShloMosaic Idealize.ShloMosaic.TcCoe Idealize.SL.Sem
open Cert.Kernel23Ideal Cert.Kernel23Ideal.Gen Cert.AdamW

variable (m : (ℓ : Loc nD τ sig) → Buf (Elt Ideal) ℓ) (c : Dev nD)

/-- Every run ends with the four result arrays at what the launch computes, the arguments unchanged. -/
theorem run_results (ρ : Dev nD → PrngReg) : θ_run defs (onTc (τ := τ) (main (F := Ideal))) ⟨m, fun _ => 0, ρ⟩ fun r => ∀ c : Dev nD,
    r.2.mem ((c : Thread nD τ).loc main_v0_0) = (dats m 0 c).arrAt 4 cfg0.N
    ∧ r.2.mem ((c : Thread nD τ).loc main_v0_1) = (dats m 0 c).arrAt 5 cfg0.N
    ∧ r.2.mem ((c : Thread nD τ).loc main_v0_2) = (dats m 0 c).arrAt 6 cfg0.N
    ∧ r.2.mem ((c : Thread nD τ).loc main_v0_3) = (dats m 0 c).arrAt 7 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h.1 c).1 4, (h.1 c).1 5, (h.1 c).1 6, (h.1 c).1 7, h.2 c⟩)
    (θ_run_and (run_main m ρ) (unchanged m ρ))

/-- The arguments: the parts of the gradient, the weights and their two moments. -/
abbrev parts : FVec Ideal S512x8x128 .f32 := m ((c : Thread nD τ).loc main_arg0)
abbrev weight : FVec Ideal S8x128 .f32 := m ((c : Thread nD τ).loc main_arg1)
abbrev moment1 : FVec Ideal S8x128 .f32 := m ((c : Thread nD τ).loc main_arg2)
abbrev moment2 : FVec Ideal S8x128 .f32 := m ((c : Thread nD τ).loc main_arg3)

/-- Where the blocks of point `t` lie: all at block row `t`; there is one point. -/
theorem index_eq : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] := by decide +kernel

/-- The one point's blocks are the arguments. -/
theorem blocks_eq (t : Fin cfg0.N) :
    (∀ k (r : Fin 8) l, iblk m c 0 t (ix3 k r l) = parts m c (ix3 k r l))
    ∧ (∀ (r : Fin 8) l, iblk m c 1 t (ix2 r l) = weight m c (ix2 r l))
    ∧ (∀ (r : Fin 8) l, iblk m c 2 t (ix2 r l) = moment1 m c (ix2 r l))
    ∧ (∀ (r : Fin 8) l, iblk m c 3 t (ix2 r l) = moment2 m c (ix2 r l)) := by
  have h := index_eq t
  refine ⟨fun k r l => ?_, fun r l => ?_, fun r l => ?_, fun r l => ?_⟩ <;> blk_ext [iblk, h]

/-- The sum of the values of `f` up to `n`, from the left. -/
def upTo (f : ℕ → EReal) : ℕ → EReal
  | 0 => f 0
  | n + 1 => upTo f n + f (n + 1)

theorem sum_eq_upTo (f : ℕ → EReal) (n : ℕ) : ∑ k : Fin (n + 1), f k.val = upTo f n := by
  induction n with
  | zero => simp [upTo]
  | succ n ih => rw [Fin.sum_univ_castSucc]; exact congrArg (· + f (n + 1)) ih

/-- The kernel adds the 512 parts up from the left. -/
theorem parts_sum (a : Vec Ideal S512x8x128 .f32) (w u v : Vec Ideal S8x128 .f32) (r : Fin 8) (l : Fin 128) :
    k0_pay52 (F := Ideal) (k0_pay57 a w u v) (View.ld a r0_510) (View.ld a r0_511) (ix2 r l) = ∑ k : Fin 512, (a (ix3 k r l) : EReal) := by
  unfold k0_pay57
  unfold_payloads
  pointwise
  refine Eq.trans ?_ ((sum_eq_upTo (fun n => a (ix3 (Fin.ofNat 512 n) r l)) 511).symm.trans
    (Finset.sum_congr rfl fun k _ => by rw [Fin.ofNat_val_eq_self]))
  rfl

/-- What the kernel leaves: the sum of the parts, the change of the weights, and the two new moments. -/
theorem final : (dats m 0 c).arrAt 4 cfg0.N = gradient (parts m c)
    ∧ (dats m 0 c).arrAt 5 cfg0.N = changes (parts m c) (weight m c) (moment1 m c) (moment2 m c)
    ∧ (dats m 0 c).arrAt 6 cfg0.N = newMoment1 (parts m c) (moment1 m c)
    ∧ (dats m 0 c).arrAt 7 cfg0.N = newMoment2 (parts m c) (moment2 m c) := by
  refine ⟨(dats m 0 c).arrAt_eq_of_covers 4 _ (by decide +kernel) ?_, (dats m 0 c).arrAt_eq_of_covers 5 _ (by decide +kernel) ?_,
    (dats m 0 c).arrAt_eq_of_covers 6 _ (by decide +kernel) ?_, (dats m 0 c).arrAt_eq_of_covers 7 _ (by decide +kernel) ?_⟩
  all_goals
    intro t hf y
    have h := index_eq t
    have e := blocks_eq m c t
    blk_simp
    first | rw [after0_4]; unfold out0_4 | rw [after0_5]; unfold out0_5 | rw [after0_6]; unfold out0_6 | rw [after0_7]; unfold out0_7
    frame_out
    idx_vars y
    refine Eq.trans ?_ (congrArg _ (show ix2 y0 y1 = _ from Eq.symm (by blk_ext [h])))
    first | unfold k0_pay56 k0_pay55 k0_pay54 k0_pay53 | unfold k0_pay54 | unfold k0_pay53 | skip
    pointwise
    simp only [parts_sum, e, c1 (κ := κ) rfl, c2 (κ := κ) rfl, mul_reciprocal1, mul_reciprocal2]
    simp only [gradient, changes, newMoment1, newMoment2]
    rfl

/-- The idealization names two constants, each a reciprocal of a divisor. -/
theorem named : Cert.preserves_Kernel23_Kernel23Ideal :=
  ⟨IdealRules.named_const.statement κ "c1" .f32 0x3FC48605#32 _ rfl, IdealRules.named_const.statement κ "c2" .f32 0x42C8E6D3#32 _ rfl⟩

/-- The reference leaves its arguments and has no semaphore. -/
theorem frame_reference : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

/-- The kernel's four results are the reference's. -/
theorem values : Cert.algebraic_Kernel23Ideal_Reference23Ideal := by
  intro m ρ m' ρ' _ hagree
  refine ⟨fun c => gradient (parts m c), fun c => changes (parts m c) (weight m c) (moment1 m c) (moment2 m c),
    fun c => newMoment1 (parts m c) (moment1 m c), fun c => newMoment2 (parts m c) (moment2 m c),
    (θ_run _ _ _).mono (fun r h c => ?_) (run_results m ρ),
    (θ_run _ _ _).mono (fun r h c => ⟨(h c).1.trans ?_, (h c).2.1.trans ?_, (h c).2.2.1.trans ?_, (h c).2.2.2.1.trans ?_,
      (h c).2.2.2.2⟩) (Cert.Reference23Ideal.Value.run (F := Ideal) m' ρ')⟩
  · obtain ⟨g, d, u, v⟩ := final m c
    exact ⟨(h c).1.trans g, (h c).2.1.trans d, (h c).2.2.1.trans u, (h c).2.2.2.1.trans v, (h c).2.2.2.2⟩
  all_goals
    simp only [(hagree c).1, (hagree c).2.1, (hagree c).2.2.1, (hagree c).2.2.2]
    funext y
    idx_vars y
    simp only [gradient, changes, newMoment1, newMoment2, change, firstMoment, secondMoment]
    pointwise

end Cert.UpdateLogStep

end
-- ==== Proof.LossMath.lean ====
/- The loss on the extended reals: the gradient of one squared error written twice over, and the factors of the
   loss moved in and out of its sums. -/
module

public import Idealize.ShloMosaic.PureOps.IdealRules
public import Idealize.ShloMosaic.Lib.Pointwise
public import Idealize.ShloMosaic.Lib.IdealHost

@[expose] public section

noncomputable section

namespace Cert.LossMath

open Idealize.ShloMosaic

theorem half_f32 : Ideal.ofBits .f32 0x3F000000#32 = ((1 / 2 : ℝ) : EReal) := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

/-- A row's length, -/
theorem length_f32 : Ideal.ofBits .f32 0x45000000#32 = ((2048 : ℝ) : EReal) := by
  simp [Ideal.ofBits, Ideal.ieee, -EReal.coe_mul]; norm_num

/-- and its reciprocal, which is a number of the format. -/
theorem reciprocal_f32 : Ideal.ofBits .f32 0x3A000000#32 = ((1 / 2048 : ℝ) : EReal) := by
  simp [Ideal.ofBits, Ideal.ieee, -EReal.coe_mul]; norm_num

/-- What an error gives to the loss's gradient. -/
def errorGradient (e : EReal) : EReal := ((1 / 2048 : ℝ) : EReal) * e

/-- The reference doubles the error, as a square's gradient, and takes half of a row's mean. -/
theorem reference_gradient (e : EReal) :
    Ideal.div (Ideal.ofBits .f32 0x3F000000#32 * Ideal.ofBits .f32 0x3F800000#32) (Ideal.ofBits .f32 0x45000000#32)
      * (Ideal.ofBits .f32 0x40000000#32 * e) = errorGradient e := by
  rw [half_f32, two_f32, length_f32, Ideal.ofBits_one_f32, Ideal.div_coe (by norm_num), mul_one, ← mul_assoc, ← EReal.coe_mul,
    ← EReal.coe_mul, errorGradient]
  norm_num

/-- The kernel adds the gradients in the product's two factors. -/
theorem kernel_gradient (e : EReal) :
    e * (Ideal.ofBits .f32 0x3F000000#32 * (Ideal.ofBits .f32 0x3F800000#32 * Ideal.ofBits .f32 0x3A000000#32))
      + (Ideal.ofBits .f32 0x3F000000#32 * (Ideal.ofBits .f32 0x3F800000#32 * Ideal.ofBits .f32 0x3A000000#32)) * e
      = errorGradient e := by
  rw [half_f32, reciprocal_f32, Ideal.ofBits_one_f32, one_mul, ← EReal.coe_mul, mul_comm e,
    ← EReal.right_distrib_of_nonneg (EReal.coe_nonneg.2 (by norm_num)) (EReal.coe_nonneg.2 (by norm_num)), ← EReal.coe_add,
    errorGradient]
  norm_num

/-- A number that is not negative goes into a finite sum. -/
theorem mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert i s hi ih =>
    rw [Finset.sum_insert hi, Finset.sum_insert hi,
      EReal.left_distrib_of_nonneg_of_ne_top (EReal.coe_nonneg.2 hc) (EReal.coe_ne_top c), ih]

/-- What the squared errors of one row, added, give to the loss: half their mean. -/
def rowLoss (q : EReal) : EReal := ((1 / 4096 : ℝ) : EReal) * q

/-- The reference takes half of the means' sum, -/
theorem reference_loss {n : ℕ} (q : Fin n → EReal) :
    Ideal.ofBits .f32 0x3F000000#32 * ∑ a, Ideal.div (q a) (Ideal.ofBits .f32 0x45000000#32) = ∑ a, rowLoss (q a) := by
  rw [half_f32, length_f32, mul_sum _ _ (by norm_num)]
  refine Finset.sum_congr rfl fun a _ => ?_
  rw [Ideal.div_coe (by norm_num), mul_comm (q a), ← mul_assoc, ← EReal.coe_mul, rowLoss]
  norm_num

/-- the kernel half of a tile's sum, times the reciprocal. -/
theorem kernel_loss {n : ℕ} (q : Fin n → EReal) :
    Ideal.ofBits .f32 0x3F000000#32 * (∑ a, q a) * Ideal.ofBits .f32 0x3A000000#32 = ∑ a, rowLoss (q a) := by
  rw [half_f32, reciprocal_f32, mul_comm, ← mul_assoc, ← EReal.coe_mul, mul_sum _ _ (by norm_num)]
  refine Finset.sum_congr rfl fun a _ => ?_
  rw [rowLoss]
  norm_num

end Cert.LossMath

end
-- ==== Proof.Loss.lean ====
/- The loss and its gradients: what the kernel leaves is the reference's, the gradients in the two summands of the last
   residual tile by tile, the loss and the gradients in the gate and the gain summed over the tiles. -/
module

public import proofs.«01_k».proof.Defs
public import proofs.«01_k».proof.Proof.LossMath
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit
public import Idealize.ShloMosaic.Lib.Pointwise
public import Idealize.ShloMosaic.Lib.StableHlo.ReadAt
public import Idealize.ShloMosaic.Lib.Pipeline.ReadBack
public import Idealize.ShloMosaic.Lib.Quiescent

@[expose] public section

set_option maxRecDepth 16384

noncomputable section

namespace Cert.Loss

open Idealize.ShloMosaic Idealize.ShloMosaic.TcCoe Idealize.SL.Sem
open Cert.Kernel24Ideal Cert.Kernel24Ideal.Gen Cert.Kernel24Ideal.Value Cert.LossMath

/-- A row's mean square, with what the norm adds to it. -/
def meanSquare (z : Fin 2048 → EReal) : EReal :=
  Ideal.div (∑ k, z k * z k) (Ideal.ofBits .f32 0x45000000#32) + Ideal.ofBits .f32 0x358637BD#32

/-- A row's factor in the norm. -/
def factor (z : Fin 2048 → EReal) : EReal := Ideal.rsqrt (meanSquare z)

/-- The error at entry `j` of a row: the row under the norm and its gain, less the target. -/
def error (z t g : Fin 2048 → EReal) (j : Fin 2048) : EReal := z j * factor z * g j - t j

/-- The gradient in a row that goes through the row's mean square, as a multiple of the row. -/
def slope (z t g : Fin 2048 → EReal) : EReal :=
  Ideal.div ((∑ k, z k * (errorGradient (error z t g k) * g k))
    * (Ideal.ofBits .f32 0xBF000000#32 * Ideal.div (factor z) (meanSquare z))) (Ideal.ofBits .f32 0x45000000#32)

/-- The gradient in a row's entry `j`. -/
def rowGradient (z t g : Fin 2048 → EReal) (j : Fin 2048) : EReal :=
  errorGradient (error z t g j) * g j * factor z + z j * slope z t g + slope z t g * z j

variable {n : ℕ}

/-- Row `a` of the last residual, the input and the gated branch, -/
def residual (x f : FVec Ideal ⟨2, ![n, 2048]⟩ .f32) (w : FVec Ideal S1x2048 .f32) (a : Fin n) (k : Fin 2048) : EReal :=
  x (ix2 a k) + w (ix2 0 k) * f (ix2 a k)

/-- the gradient in it, -/
def gradient (x f t : FVec Ideal ⟨2, ![n, 2048]⟩ .f32) (w g : FVec Ideal S1x2048 .f32) (a : Fin n) (j : Fin 2048) : EReal :=
  rowGradient (residual x f w a) (fun k => t (ix2 a k)) (fun k => g (ix2 0 k)) j

/-- in the branch, -/
def branchGradient (x f t : FVec Ideal ⟨2, ![n, 2048]⟩ .f32) (w g : FVec Ideal S1x2048 .f32) (a : Fin n) (j : Fin 2048) : EReal :=
  w (ix2 0 j) * gradient x f t w g a j

/-- what the row gives to the gate's gradient, -/
def gatePart (x f t : FVec Ideal ⟨2, ![n, 2048]⟩ .f32) (w g : FVec Ideal S1x2048 .f32) (a : Fin n) (j : Fin 2048) : EReal :=
  gradient x f t w g a j * f (ix2 a j)

/-- to the gain's, -/
def gainPart (x f t : FVec Ideal ⟨2, ![n, 2048]⟩ .f32) (w g : FVec Ideal S1x2048 .f32) (a : Fin n) (j : Fin 2048) : EReal :=
  residual x f w a j * factor (residual x f w a)
    * errorGradient (error (residual x f w a) (fun k => t (ix2 a k)) (fun k => g (ix2 0 k)) j)

/-- and to the loss. -/
def lossPart (x f t : FVec Ideal ⟨2, ![n, 2048]⟩ .f32) (w g : FVec Ideal S1x2048 .f32) (a : Fin n) : EReal :=
  rowLoss (∑ k, error (residual x f w a) (fun k => t (ix2 a k)) (fun k => g (ix2 0 k)) k
    * error (residual x f w a) (fun k => t (ix2 a k)) (fun k => g (ix2 0 k)) k)

section tile

variable (x f t : FVec Ideal S256x2048 .f32) (w g : FVec Ideal S1x2048 .f32)

/-- The kernel's errors of one tile, and their gradients. -/
theorem tile_error (a : Fin 256) (j : Fin 2048) :
    k0_pay12 (F := Ideal) x f t w g (ix2 a j) = error (residual x f w a) (fun k => t (ix2 a k)) (fun k => g (ix2 0 k)) j := by
  unfold_payloads
  unfold error factor meanSquare residual
  pointwise

theorem tile_error_gradient (e : FVec Ideal S256x2048 .f32) (a : Fin 256) (j : Fin 2048) :
    k0_pay15 (F := Ideal) e k0_pay14 (ix2 a j) = errorGradient (e (ix2 a j)) := by
  rw [← kernel_gradient]
  unfold_payloads
  pointwise
  simp only [Finset.univ_unique, Finset.sum_singleton]

theorem tile_gradient (a : Fin 256) (j : Fin 2048) :
    k0_pay17 (F := Ideal) g (k0_pay7 x f w) (k0_pay9 x f w) (k0_pay10 x f w) (k0_pay12 x f t w g) k0_pay14 (ix2 a j)
      = gradient x f t w g a j := by
  unfold k0_pay17
  unfold gradient rowGradient slope
  pointwise
  simp only [Finset.univ_unique, Finset.sum_singleton, tile_error_gradient, tile_error]
  unfold_payloads
  unfold factor meanSquare residual
  pointwise

theorem tile_loss (u : Fin 8) (v : Fin 128) :
    k0_pay19 (F := Ideal) (k0_pay13 x f t w g) (ix2 u v) = ∑ a, lossPart x f t w g a := by
  unfold lossPart
  rw [← kernel_loss]
  unfold k0_pay19 k0_pay13
  pointwise
  simp only [tile_error]

theorem tile_branch (a : Fin 256) (j : Fin 2048) :
    k0_pay20 (F := Ideal) w g (k0_pay7 x f w) (k0_pay9 x f w) (k0_pay10 x f w) (k0_pay12 x f t w g) k0_pay14 (ix2 a j)
      = branchGradient x f t w g a j := by
  unfold k0_pay20 branchGradient
  pointwise
  simp only [tile_gradient]

theorem tile_gate (j : Fin 2048) :
    k0_pay18 (F := Ideal) f g (k0_pay7 x f w) (k0_pay9 x f w) (k0_pay10 x f w) (k0_pay12 x f t w g) k0_pay14 (ix2 0 j)
      = ∑ a, gatePart x f t w g a j := by
  unfold k0_pay18 gatePart
  pointwise
  simp only [tile_gradient]

theorem tile_gain (j : Fin 2048) :
    k0_pay16 (F := Ideal) (k0_pay11 x f w) (k0_pay12 x f t w g) k0_pay14 (ix2 0 j) = ∑ a, gainPart x f t w g a j := by
  unfold k0_pay16 gainPart
  pointwise
  simp only [tile_error_gradient, tile_error]
  unfold_payloads
  unfold factor meanSquare residual
  pointwise

end tile

variable (m : (ℓ : Loc nD τ sig) → Buf (Elt Ideal) ℓ) (c : Dev nD)

/-- The arguments: the residual's input and its branch, the target, the branch's gate and the norm's gain. -/
abbrev input : FVec Ideal S2048x2048 .f32 := m ((c : Thread nD τ).loc main_arg0)
abbrev branch : FVec Ideal S2048x2048 .f32 := m ((c : Thread nD τ).loc main_arg1)
abbrev target : FVec Ideal S2048x2048 .f32 := m ((c : Thread nD τ).loc main_arg2)
abbrev gate : FVec Ideal S1x2048 .f32 := m ((c : Thread nD τ).loc main_arg3)
abbrev gain : FVec Ideal S1x2048 .f32 := m ((c : Thread nD τ).loc main_arg4)

/-- Where the blocks of point `t` lie: rows `256 t` on, and the whole arrays of the gate, the gain and the sums. -/
theorem index_eq : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] := by decide +kernel

theorem points_lt (t : Fin cfg0.N) : t.val < 8 := lt_of_lt_of_eq t.isLt (show cfg0.N = 8 from N_0)

/-- Row `a` of tile `t`. -/
abbrev row (t : Fin cfg0.N) (a : Fin 256) : Fin 2048 := ⟨t.val * 256 + a.val, by have := points_lt t; omega⟩

theorem blocks_eq (t : Fin cfg0.N) :
    (∀ (a : Fin 256) k, iblk m c 0 t (ix2 a k) = input m c (ix2 (row t a) k))
    ∧ (∀ (a : Fin 256) k, iblk m c 1 t (ix2 a k) = branch m c (ix2 (row t a) k))
    ∧ (∀ (a : Fin 256) k, iblk m c 2 t (ix2 a k) = target m c (ix2 (row t a) k))
    ∧ (∀ (a : Fin 1) k, iblk m c 3 t (ix2 a k) = gate m c (ix2 a k))
    ∧ (∀ (a : Fin 1) k, iblk m c 4 t (ix2 a k) = gain m c (ix2 a k)) := by
  have h := index_eq t
  refine ⟨fun a k => ?_, fun a k => ?_, fun a k => ?_, fun a k => ?_, fun a k => ?_⟩ <;> blk_ext [iblk, h]

section moved

variable (t : Fin cfg0.N) (a : Fin 256)

/-- A tile's gradients and parts are the arrays', a tile further down. -/
theorem gradient_moved (j : Fin 2048) : gradient (iblk m c 0 t) (iblk m c 1 t) (iblk m c 2 t) (iblk m c 3 t) (iblk m c 4 t) a j
    = gradient (input m c) (branch m c) (target m c) (gate m c) (gain m c) (row t a) j := by
  unfold gradient residual
  simp only [blocks_eq m c t]

theorem branch_moved (j : Fin 2048) :
    branchGradient (iblk m c 0 t) (iblk m c 1 t) (iblk m c 2 t) (iblk m c 3 t) (iblk m c 4 t) a j
      = branchGradient (input m c) (branch m c) (target m c) (gate m c) (gain m c) (row t a) j := by
  unfold branchGradient
  simp only [gradient_moved, blocks_eq m c t]

theorem gate_moved (j : Fin 2048) : gatePart (iblk m c 0 t) (iblk m c 1 t) (iblk m c 2 t) (iblk m c 3 t) (iblk m c 4 t) a j
    = gatePart (input m c) (branch m c) (target m c) (gate m c) (gain m c) (row t a) j := by
  unfold gatePart
  simp only [gradient_moved, blocks_eq m c t]

theorem gain_moved (j : Fin 2048) : gainPart (iblk m c 0 t) (iblk m c 1 t) (iblk m c 2 t) (iblk m c 3 t) (iblk m c 4 t) a j
    = gainPart (input m c) (branch m c) (target m c) (gate m c) (gain m c) (row t a) j := by
  unfold gainPart residual
  simp only [blocks_eq m c t]

theorem loss_moved : lossPart (iblk m c 0 t) (iblk m c 1 t) (iblk m c 2 t) (iblk m c 3 t) (iblk m c 4 t) a
    = lossPart (input m c) (branch m c) (target m c) (gate m c) (gain m c) (row t a) := by
  unfold lossPart residual
  simp only [blocks_eq m c t]

end moved

/-- What the loss holds after point `n`, and what point `t` adds to it. -/
def lossHeld (n : ℕ) (h : n < cfg0.N) : S8x128.Idx → EReal := (outsAt0 m c n h).2.2.1
def lossTerm (t : Fin cfg0.N) (_ : S8x128.Idx) : EReal :=
  ∑ a : Fin 256, lossPart (input m c) (branch m c) (target m c) (gate m c) (gain m c) (row t a)

theorem loss_first (t : Fin cfg0.N) (h : t.val % 8 = 0) (y : S8x128.Idx) :
    lossHeld m c t.val t.isLt y = (fun _ => 0 : S8x128.Idx → EReal) y + lossTerm m c t y := by
  unfold lossHeld lossTerm
  idx_vars y
  rw [outsAt0_A m c t h]
  dsimp only
  frame_out
  unfold k0_pay4 k0_pay1
  pointwise
  simp only [tile_loss, loss_moved]

theorem loss_next (t : Fin cfg0.N) (h : ¬t.val % 8 = 0) (y : S8x128.Idx) :
    lossHeld m c t.val t.isLt y
      = lossHeld m c (t.val - 1) (Nat.lt_of_le_of_lt (Nat.sub_le _ _) t.isLt) y + lossTerm m c t y := by
  unfold lossHeld lossTerm
  idx_vars y
  rw [outsAt0_B m c t h]
  dsimp only
  frame_out
  unfold k0_pay4
  pointwise
  simp only [tile_loss, loss_moved]

/-- What row `r` gives to the two parameters' gradients: the gate's, the gain's. -/
def part (i : Fin 2) (r j : Fin 2048) : EReal :=
  match i with
  | 0 => gatePart (input m c) (branch m c) (target m c) (gate m c) (gain m c) r j
  | 1 => gainPart (input m c) (branch m c) (target m c) (gate m c) (gain m c) r j

/-- What the two gradients hold after point `n`, -/
def held (i : Fin 2) (n : ℕ) (h : n < cfg0.N) : S1x2048.Idx → EReal :=
  match i with
  | 0 => (outsAt0 m c n h).2.2.2.1
  | 1 => (outsAt0 m c n h).2.2.2.2

/-- and what point `t` adds to them. -/
def term (i : Fin 2) (t : Fin cfg0.N) (y : S1x2048.Idx) : EReal := ∑ a : Fin 256, part m c i (row t a) (y 1)

theorem held_first (i : Fin 2) (t : Fin cfg0.N) (h : t.val % 8 = 0) (y : S1x2048.Idx) :
    held m c i t.val t.isLt y = (fun _ => 0 : S1x2048.Idx → EReal) y + term m c i t y := by
  unfold held term part
  idx_vars y
  fin_cases i
  all_goals
    dsimp only
    rw [outsAt0_A m c t h]
    dsimp only
    frame_out
    obtain rfl : y0 = 0 := Subsingleton.elim _ _
    first | unfold k0_pay5 k0_pay2 | unfold k0_pay6 k0_pay3
    pointwise
    simp only [tile_gate, tile_gain, gate_moved, gain_moved]

theorem held_next (i : Fin 2) (t : Fin cfg0.N) (h : ¬t.val % 8 = 0) (y : S1x2048.Idx) :
    held m c i t.val t.isLt y = held m c i (t.val - 1) (Nat.lt_of_le_of_lt (Nat.sub_le _ _) t.isLt) y + term m c i t y := by
  unfold held term part
  idx_vars y
  fin_cases i
  all_goals
    dsimp only
    rw [outsAt0_B m c t h]
    dsimp only
    frame_out
    obtain rfl : y0 = 0 := Subsingleton.elim _ _
    first | unfold k0_pay5 | unfold k0_pay6
    pointwise
    simp only [tile_gate, tile_gain, gate_moved, gain_moved]

/-- A sum that starts at zero and gets a tile's parts at each point ends as the sum over all rows. -/
theorem sum_rows {s : Shape} (A : (n : ℕ) → n < cfg0.N → s.Idx → EReal) (p : Fin 2048 → s.Idx → EReal)
    (first : ∀ t : Fin cfg0.N, t.val % 8 = 0 → ∀ y, A t.val t.isLt y = (fun _ => 0 : s.Idx → EReal) y + ∑ a, p (row t a) y)
    (next : ∀ t : Fin cfg0.N, ¬t.val % 8 = 0 → ∀ y, A t.val t.isLt y
      = A (t.val - 1) (Nat.lt_of_le_of_lt (Nat.sub_le _ _) t.isLt) y + ∑ a, p (row t a) y)
    (t : Fin cfg0.N) (h : t.val % 8 = 7) (y : s.Idx) : A t.val t.isLt y = ∑ r, p r y := by
  have ht := points_lt t
  refine (Pipeline.eq_sum_fin_of_reset_step_apply_of_flush A 8 (fun _ => 0) (fun t y => ∑ a, p (row t a) y) first next
    t h y).trans ((zero_add _).trans ?_)
  refine Fin.sum_mul_add_congr (fun s k hl => ?_)
  refine congrArg (fun r => p r y) (Fin.ext ?_)
  dsimp only
  omega

section results

variable (x f t : FVec Ideal S2048x2048 .f32) (w g : FVec Ideal S1x2048 .f32)

/-- The five results: the gradients in the residual's input and in its branch, -/
def inputResult : FVec Ideal S2048x2048 .f32 := fun y => gradient x f t w g (y 0) (y 1)
def branchResult : FVec Ideal S2048x2048 .bf16 := fun y => branchGradient x f t w g (y 0) (y 1)

/-- the loss, at every entry, and the gradients in the gate and in the gain. -/
def lossResult : FVec Ideal S8x128 .f32 := fun _ => ∑ a, lossPart x f t w g a
def gateResult : FVec Ideal S1x2048 .f32 := fun y => ∑ a, gatePart x f t w g a (y 1)
def gainResult : FVec Ideal S1x2048 .f32 := fun y => ∑ a, gainPart x f t w g a (y 1)

end results

/-- Where row `a` of tile `t` lies in the two results that the tiles fill. -/
theorem row_eq (t : Fin cfg0.N) (a : Fin 256) (j : Fin 2048) :
    (win0_5.blk t).view.emb (ix2 a j) = ix2 (row t a) j ∧ (win0_6.blk t).view.emb (ix2 a j) = ix2 (row t a) j := by
  have h := index_eq t
  refine ⟨?_, ?_⟩ <;> blk_ext [h]

theorem final_input :
    (dats m 0 c).arrAt 5 cfg0.N = inputResult (input m c) (branch m c) (target m c) (gate m c) (gain m c) := by
  refine (dats m 0 c).arrAt_eq_of_covers 5 _ (by decide +kernel) fun t hf y => ?_
  blk_simp
  rw [after0_5]
  idx_vars y
  rw [(row_eq t y0 y1).1]
  by_cases h0 : t.val % 8 = 0
  · rw [outsAt0_A m c t h0]
    dsimp only
    frame_out
    exact (tile_gradient _ _ _ _ _ _ _).trans (gradient_moved m c t y0 y1)
  · rw [outsAt0_B m c t h0]
    dsimp only
    frame_out
    exact (tile_gradient _ _ _ _ _ _ _).trans (gradient_moved m c t y0 y1)

theorem final_branch :
    (dats m 0 c).arrAt 6 cfg0.N = branchResult (input m c) (branch m c) (target m c) (gate m c) (gain m c) := by
  refine (dats m 0 c).arrAt_eq_of_covers 6 _ (by decide +kernel) fun t hf y => ?_
  blk_simp
  rw [after0_6]
  idx_vars y
  rw [(row_eq t y0 y1).2]
  by_cases h0 : t.val % 8 = 0
  · rw [outsAt0_A m c t h0]
    dsimp only
    frame_out
    exact (tile_branch _ _ _ _ _ _ _).trans (branch_moved m c t y0 y1)
  · rw [outsAt0_B m c t h0]
    dsimp only
    frame_out
    exact (tile_branch _ _ _ _ _ _ _).trans (branch_moved m c t y0 y1)

theorem final_loss :
    (dats m 0 c).arrAt 7 cfg0.N = lossResult (input m c) (branch m c) (target m c) (gate m c) (gain m c) := by
  refine (dats m 0 c).arrAt_eq_of_covers 7 _ (by decide +kernel) fun t hf y => ?_
  blk_simp
  rw [after0_7]
  exact sum_rows (lossHeld m c) (fun r _ => lossPart (input m c) (branch m c) (target m c) (gate m c) (gain m c) r)
    (loss_first m c) (loss_next m c) t ((flush0_7 t).mp hf) y

theorem final_gate :
    (dats m 0 c).arrAt 8 cfg0.N = gateResult (input m c) (branch m c) (target m c) (gate m c) (gain m c) := by
  refine (dats m 0 c).arrAt_eq_of_covers 8 _ (by decide +kernel) fun t hf y => ?_
  have h := index_eq t
  blk_simp
  rw [after0_8]
  refine (sum_rows (held m c 0) (fun r y => part m c 0 r (y 1)) (held_first m c 0) (held_next m c 0) t
    ((flush0_8 t).mp hf) y).trans ?_
  idx_vars y
  have hj : (win0_8.blk t).view.emb (ix2 y0 y1) = ix2 y0 y1 := by blk_ext [h]
  rw [hj]
  rfl

theorem final_gain :
    (dats m 0 c).arrAt 9 cfg0.N = gainResult (input m c) (branch m c) (target m c) (gate m c) (gain m c) := by
  refine (dats m 0 c).arrAt_eq_of_covers 9 _ (by decide +kernel) fun t hf y => ?_
  have h := index_eq t
  blk_simp
  rw [after0_9]
  refine (sum_rows (held m c 1) (fun r y => part m c 1 r (y 1)) (held_first m c 1) (held_next m c 1) t
    ((flush0_9 t).mp hf) y).trans ?_
  idx_vars y
  have hj : (win0_9.blk t).view.emb (ix2 y0 y1) = ix2 y0 y1 := by blk_ext [h]
  rw [hj]
  rfl

/-- The reference leaves its arguments and has no semaphore. -/
theorem frame_reference : Cert.quiescent_Reference24Ideal := fun m ρ _ =>
  (θ_run Cert.Reference24Ideal.defs _ _).mono (fun r h => ⟨fun c => (h c).2.2.2.2.2, sem_eq_zero_of_no_sems (by decide) r.2⟩)
    (Cert.Reference24Ideal.Value.run (F := Ideal) m ρ)

/-- The kernel's five results are the reference's. -/
theorem values : Cert.algebraic_Kernel24Ideal_Reference24Ideal := by
  intro m ρ m' ρ' _ hagree
  refine ⟨fun c => inputResult (input m c) (branch m c) (target m c) (gate m c) (gain m c),
    fun c => branchResult (input m c) (branch m c) (target m c) (gate m c) (gain m c),
    fun c => lossResult (input m c) (branch m c) (target m c) (gate m c) (gain m c),
    fun c => gateResult (input m c) (branch m c) (target m c) (gate m c) (gain m c),
    fun c => gainResult (input m c) (branch m c) (target m c) (gate m c) (gain m c),
    (θ_run _ _ _).mono (fun r h c => ?_) (run_blocks m ρ),
    (θ_run _ _ _).mono (fun r h c => ⟨(h c).1.trans ?_, (h c).2.1.trans ?_, (h c).2.2.1.trans ?_, (h c).2.2.2.1.trans ?_,
      (h c).2.2.2.2.1.trans ?_, (h c).2.2.2.2.2⟩) (Cert.Reference24Ideal.Value.run (F := Ideal) m' ρ')⟩
  · exact ⟨(h c).1.trans (final_input m c), (h c).2.1.trans (final_branch m c), (h c).2.2.1.trans (final_loss m c),
      (h c).2.2.2.1.trans (final_gate m c), (h c).2.2.2.2.1.trans (final_gain m c), (h c).2.2.2.2.2⟩
  case' refine_2 => unfold Cert.Reference24Ideal.Value.res_main_v51
  case' refine_3 => unfold Cert.Reference24Ideal.Value.res_main_v57
  case' refine_5 => unfold Cert.Reference24Ideal.Value.res_main_v56
  all_goals
    obtain ⟨h0, h1, h2, h3, h4⟩ := hagree c
    simp only [h0, h1, h2, h3, h4]
    funext y
    idx_vars y
    simp only [inputResult, branchResult, lossResult, gateResult, gainResult, branchGradient, gatePart, gainPart, lossPart,
      gradient, rowGradient, slope, ← reference_gradient, ← reference_loss, error, factor, meanSquare, residual]
    pointwise
  all_goals simp only [Finset.univ_unique, Finset.sum_singleton]

end Cert.Loss

end
-- ==== Proof.FrameBody.lean ====
/- The body at one grid point, at any values: from its four input blocks, and from outputs and carried rows at anything, it
   runs to its end with the blocks as they were. -/
module

public import proofs.«01_k».proof.Proof.Gen.KernelIdeal.Loops
public import proofs.«01_k».proof.Proof.Gen.KernelIdeal.Frame

@[expose] public section

set_option maxRecDepth 16384

noncomputable section

namespace Cert.Unchanged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords)
  {arg2 : Memref sig .tc .vmem S256x512 .f32} (harg2 : arg2.IsWhole) {arg3 : Memref sig .tc .vmem S256x512 .f32} (harg3 : arg3.IsWhole)
  {arg4 : Memref sig .tc .vmem S1x512 .f32} (harg4 : arg4.IsWhole) {arg5 : Memref sig .tc .vmem S1x512 .f32} (harg5 : arg5.IsWhole)
  {arg6 : Memref sig .tc .vmem S256x512 .f32} (harg6 : arg6.IsWhole) {arg7 : Memref sig .tc .vmem S256x512 .f32} (harg7 : arg7.IsWhole)
  {arg8 : Memref sig .tc .vmem S8x512 .f32} (harg8 : arg8.IsWhole) {arg9 : Memref sig .tc .vmem S8x512 .f32} (harg9 : arg9.IsWhole)
  (u v : Vec F S256x512 .f32) (x y : Vec F S1x512 .f32)

/-- The body's buffers: the inputs at their blocks, the outputs and the carried rows at anything. -/
def buffers (arg2 arg3 arg6 arg7 : Memref sig .tc .vmem S256x512 .f32) (arg4 arg5 : Memref sig .tc .vmem S1x512 .f32)
    (arg8 arg9 : Memref sig .tc .vmem S8x512 .f32) : sProp 𝕄 :=
  iprop(owns (c : Thread nD τ) arg2 fullShare u ∗ owns (c : Thread nD τ) arg3 fullShare v ∗ owns (c : Thread nD τ) arg4 fullShare x
    ∗ owns (c : Thread nD τ) arg5 fullShare y ∗ (∃ d, owns (c : Thread nD τ) arg6 fullShare d) ∗ (∃ d, owns (c : Thread nD τ) arg7 fullShare d)
    ∗ (∃ d, owns (c : Thread nD τ) arg8 fullShare d) ∗ (∃ d, owns (c : Thread nD τ) arg9 fullShare d))

set_option maxHeartbeats 1000000 in
/-- The body keeps its buffers. -/
theorem body_keeps : (buffers c u v x y arg2 arg3 arg6 arg7 arg4 arg5 arg8 arg9 : sProp 𝕄)
    ⊢ wp frame (wpE (defs₀ (F := F)) Variants.none c none) Set.univ
        (cc0_s5_scan_b0 i arg2 harg2 arg3 harg3 arg4 harg4 arg5 harg5 arg6 harg6 arg7 harg7 arg8 harg8 arg9 harg9)
        (fun _ => buffers c u v x y arg2 arg3 arg6 arg7 arg4 arg5 arg8 arg9) := by
  simp only [cc0_s5_scan_b0_eq_skeleton]; unfold cc0_s5_scan_b0_skel
  simp only [k0_part2_eq_skeleton, k0_part3_eq_skeleton]
  unfold buffers owns
  iintro ⟨⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩⟩
  by_cases hi : (Scalar.cmpi .ne (Scalar.extui (Scalar.cmpi .eq (BitVec.ofNat 32 (i 1).val) 0#32)) 0#32) = 1#1
  all_goals
    sl_exec (disch := first | sl_exact hi)
    sl_step
    isplitl [H2]
    · iexists f2; isplitr
      · ipureintro; exact h2
      iexact H2
    isplitl [H3]
    · iexists f3; isplitr
      · ipureintro; exact h3
      iexact H3
    isplitl [H4]
    · iexists f4; isplitr
      · ipureintro; exact h4
      iexact H4
    isplitl [H5]
    · iexists f5; isplitr
      · ipureintro; exact h5
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.Unchanged

end
-- ==== Proof.Unchanged.lean ====
/- The launch at any values: the argument arrays end as they were and every semaphore at zero. What the outputs hold is not
   said. The kernel and its idealization are the same text, so one run serves both. -/
module

public import proofs.«01_k».proof.Proof.FrameBody
public import proofs.«01_k».proof.Proof.Gen.Kernel.Launch
public import Idealize.ShloMosaic.Lib.Quiescent

@[expose] public section

set_option maxRecDepth 16384

noncomputable section

namespace Cert.Unchanged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The two outputs, of which nothing is said. -/
def unsaid : Fin 6 → Bool := fun w => 4 ≤ w.val

/-- The proof data: inputs keep their blocks; the carried rows are at anything. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Dat.unnamed (cfg := cfg0) ⟨4, h⟩ t
    | ⟨5, h⟩ => Dat.unnamed (cfg := cfg0) ⟨5, h⟩ t
  Φ _ := Pipeline.ΦA spec0 c
  q _ := fullShare
  owed _ := 0

theorem arrays (w : Fin cfg0.W) : (data m 0 c).A w = V m c (Pipeline.arrRef spec0 w) := by dsimp only [data]

theorem rows_eq : (Pipeline.ΦA spec0 c : sProp 𝕄)
    = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA
  rw [scopedRest0_eq]
  simp only [owns_whole]
  try rfl

theorem kept0 (t : Fin cfg0.N) : (data m 0 c).after 0 t = iblk m c 0 t := by dsimp only [data]
theorem kept1 (t : Fin cfg0.N) : (data m 0 c).after 1 t = iblk m c 1 t := by dsimp only [data]
theorem kept2 (t : Fin cfg0.N) : (data m 0 c).after 2 t = iblk m c 2 t := by dsimp only [data]
theorem kept3 (t : Fin cfg0.N) : (data m 0 c).after 3 t = iblk m c 3 t := by dsimp only [data]
theorem found0 (t : Fin cfg0.N) (d) : (data m 0 c).before 0 t d = iblk m c 0 t := before0_0_of m (data m 0 c) (arrays m c 0) (kept0 m c) t d
theorem found1 (t : Fin cfg0.N) (d) : (data m 0 c).before 1 t d = iblk m c 1 t := before0_1_of m (data m 0 c) (arrays m c 1) (kept1 m c) t d
theorem found2 (t : Fin cfg0.N) (d) : (data m 0 c).before 2 t d = iblk m c 2 t := before0_2_of m (data m 0 c) (arrays m c 2) (kept2 m c) t d
theorem found3 (t : Fin cfg0.N) (d) : (data m 0 c).before 3 t d = iblk m c 3 t := before0_3_of m (data m 0 c) (arrays m c 3) (kept3 m c) t d

/-- Window `w`'s staging buffer at point `t`. -/
abbrev stageAt (w : Fin cfg0.W) (t : Fin cfg0.N) := (cfg0.win w).stage (cfg0.slots t w)

/-- The buffers the body has at point `t`. -/
abbrev buffersAt (t : Fin cfg0.N) : sProp 𝕄 :=
  buffers c (iblk m c 0 t) (iblk m c 1 t) (iblk m c 2 t) (iblk m c 3 t) (stageAt 0 t) (stageAt 1 t) (stageAt 4 t) (stageAt 5 t)
    (stageAt 2 t) (stageAt 3 t) (Memref.whole cc0_scratch0) (Memref.whole cc0_scratch1)

/-- What the pipeline hands the body at point `t`. -/
def handed (t : Fin cfg0.N) : sProp 𝕄 :=
  iprop((data m 0 c).Φ t.castSucc ∗ (data m 0 c).owesAt () t.castSucc
    ∗ (∃ d, owns (c : Thread nD τ) (stageAt 0 t) fullShare ((data m 0 c).before 0 t d))
    ∗ (∃ d, owns (c : Thread nD τ) (stageAt 1 t) fullShare ((data m 0 c).before 1 t d))
    ∗ (∃ d, owns (c : Thread nD τ) (stageAt 2 t) fullShare ((data m 0 c).before 2 t d))
    ∗ (∃ d, owns (c : Thread nD τ) (stageAt 3 t) fullShare ((data m 0 c).before 3 t d))
    ∗ (∃ d, owns (c : Thread nD τ) (stageAt 4 t) fullShare d)
    ∗ (∃ d, owns (c : Thread nD τ) (stageAt 5 t) fullShare d))

/-- What it expects back. -/
def returned (t : Fin cfg0.N) : sProp 𝕄 :=
  iprop((data m 0 c).Φ t.succ ∗ (data m 0 c).owesAt () t.succ
    ∗ owns (c : Thread nD τ) (stageAt 0 t) fullShare ((data m 0 c).after 0 t)
    ∗ owns (c : Thread nD τ) (stageAt 1 t) fullShare ((data m 0 c).after 1 t)
    ∗ owns (c : Thread nD τ) (stageAt 2 t) fullShare ((data m 0 c).after 2 t)
    ∗ owns (c : Thread nD τ) (stageAt 3 t) fullShare ((data m 0 c).after 3 t)
    ∗ (∃ d, owns (c : Thread nD τ) (stageAt 4 t) fullShare d)
    ∗ (∃ d, owns (c : Thread nD τ) (stageAt 5 t) fullShare d))

/-- What the body does not touch. -/
def aside (t : Fin cfg0.N) : sProp 𝕄 := iprop((∃ r, prngReg c r) ∗ (data m 0 c).owesAt () t.castSucc)

theorem open_up (t : Fin cfg0.N) : handed m c t ⊢ iprop(buffersAt m c t ∗ aside m c t) := by
  unfold handed buffersAt buffers aside
  rw [show (data m 0 c).Φ t.castSucc = Pipeline.ΦA spec0 c from rfl, rows_eq]
  simp only [found0, found1, found2, found3]
  iintro ⟨⟨⟨S0, S1⟩, Hg⟩, Ho, ⟨%d0, H0⟩, ⟨%d1, H1⟩, ⟨%d2, H2⟩, ⟨%d3, H3⟩, H4, H5⟩
  isplitr [Hg Ho]
  · isplitl [H0]; · iexact H0
    isplitl [H1]; · iexact H1
    isplitl [H2]; · iexact H2
    isplitl [H3]; · iexact H3
    isplitl [H4]; · iexact H4
    isplitl [H5]; · iexact H5
    isplitl [S0]; · iexact S0
    iexact S1
  isplitl [Hg]; · iexact Hg
  iexact Ho

theorem put_back (t : Fin cfg0.N) : iprop(buffersAt m c t ∗ aside m c t) ⊢ returned m c t := by
  unfold returned buffersAt buffers aside
  rw [show (data m 0 c).Φ t.succ = Pipeline.ΦA spec0 c from rfl, rows_eq, kept0, kept1, kept2, kept3,
    show (data m 0 c).owesAt () t.succ = (data m 0 c).owesAt () t.castSucc from rfl]
  iintro ⟨⟨H0, H1, H2, H3, H4, H5, S0, S1⟩, Hg, Ho⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem at_point (t : Fin cfg0.N) :
    handed m c t ⊢ wp frame (wpE (defs₀ (F := F)) Variants.none c none) Set.univ (bodyAt0 t) (fun _ => returned m c t) := by
  refine (open_up m c t).trans ?_
  unfold bodyAt0
  iintro ⟨Hb, Ha⟩
  iapply (wp_wand_r Idealize.ShloMosaic.frame (wpE (defs₀ (F := F)) Variants.none (c : Thread nD τ) none) Set.univ)
  isplitl [Hb]
  · iapply body_keeps c
    iexact Hb
  · iintro %_ H
    iapply put_back m c t
    isplitl [H]; · iexact H
    iexact Ha

theorem obligation : BodyObligation (data (F := F) m 0 c) (defs₀ (F := F)) Variants.none () Set.univ unsaid := fun t => by
  rw [bigSep_W0, bigSep_W0, show defs₀ (F := F) .tc cfg0.body (cfg0.bodyArgs t (cfg0.slots t)) = bodyAt0 t by
    unfold defs₀; rw [Defs.onTc_tc]]
  exact triple_restated (at_point m c t) rfl .rfl fun _ => .rfl

set_option backward.isDefEq.respectTransparency.types false in
/-- The launch. -/
theorem launch : θ_run defs (onTc (τ := τ) (main (F := F))) (s₀ m ρ)
    (fun r => Pipeline.RDat.FramePost (cfgs 0) (fun c => (data m 0 c).toRForget unsaid) (V m) r ∧ r.2.sem = fun _ => 0) :=
  Pipeline.θ_run_frame_track_forget (Q' := _) cfgs (data m) (0 : Fin 1) launch0 defs₀ Variants.none unsaid m ρ main
    (hbody := fun c => (obligation m c).loose) (hshare := fun c => (data m 0 c).share_full fun _ => rfl)
    (howed := fun _ _ => rfl) (V := V m) (hmain := hmain m Variants.none) (hA := arrays m)
    (hin := fun _ => .rfl) (hout := fun _ => .rfl)

/-- The arguments end as they were, the semaphores at zero. -/
theorem idealized : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(Pipeline.RDat.FramePost.arr_in h.1 c 2 rfl).trans ((arrays m c 2).trans (V_main_arg0 m c)),
      ((h.1 c).2 main_arg1 (Pipeline.mem_restRefs_of main_arg1 (by decide) (by decide))).trans (V_main_arg1 m c),
      (Pipeline.RDat.FramePost.arr_in h.1 c 0 rfl).trans ((arrays m c 0).trans (V_main_arg2 m c)),
      (Pipeline.RDat.FramePost.arr_in h.1 c 1 rfl).trans ((arrays m c 1).trans (V_main_arg3 m c))⟩, h.2⟩) (launch m ρ)

/-! ## The kernel is the idealized kernel's text -/

theorem bodies_eq : Cert.KernelIdeal.defs₀ (F := F) = Cert.Kernel.defs₀ (F := F) := by
  unfold Cert.KernelIdeal.defs₀ Cert.Kernel.defs₀
  refine congrArg Defs.onTc (funext fun l => funext fun a => ?_)
  obtain ⟨l, hl⟩ := l
  match l, hl, a with
  | 0, _, (t, s) => rfl

theorem defs_eq : Cert.KernelIdeal.defs (F := F) = Cert.Kernel.defs (F := F) := congrArg (Pipeline.defs _) bodies_eq

theorem kernel (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [← defs_eq]
  exact idealized m ρ

end Cert.Unchanged

end
-- ==== Proof.ScanMath.lean ====
/- The arithmetic behind the kernel's treatment of a group of eight rows. A first-order linear recurrence
   `g r = u r + a * g (r + 1)` over a group of eight rows, entered with the value `g 8` of the row after the group, is
   found by three doubling levels (each adds to a row the partial sum of the row 1, 2, then 4 further down, times the
   matching power of `a`) and the entry value times `a ^ (8 - r)`. -/
module

public import Mathlib.Analysis.Complex.Basic
public import Mathlib.Tactic.IntervalCases

@[expose] public section

namespace Cert.Scan

/-- One doubling level: to row `r` of a group of eight, `w` times the value `k` rows further down, if the group has
    that row. -/
noncomputable def level (k : ℕ) (w : ℂ) (u : ℕ → ℂ) (r : ℕ) : ℂ := u r + w * (if r < 8 - k then u (r + k) else 0)

/-- Three levels and the entry value give the recurrence on the eight rows. -/
theorem group_eq (a : ℂ) (u g : ℕ → ℂ) (h : ∀ r, r < 8 → u r = g r - a * g (r + 1)) (r : ℕ) (hr : r < 8) :
    level 4 (a ^ 4) (level 2 (a ^ 2) (level 1 a u)) r + a ^ (8 - r) * g 8 = g r := by
  have h0 := h 0 (by omega); have h1 := h 1 (by omega); have h2 := h 2 (by omega); have h3 := h 3 (by omega)
  have h4 := h 4 (by omega); have h5 := h 5 (by omega); have h6 := h 6 (by omega); have h7 := h 7 (by omega)
  interval_cases r <;> simp [level, h0, h1, h2, h3, h4, h5, h6, h7] <;> ring

/-- The power `a ^ (8 - r)` from the binary digits of `8 - r`, the factors `a`, `a ^ 2`, `a ^ 4`, `a ^ 8` taken in that
    order. -/
theorem digits_eq (a : ℂ) (r : ℕ) (hr : r < 8) (p1 p2 p3 : ℂ)
    (h1 : p1 = if (8 - r).testBit 0 then 1 * a else 1) (h2 : p2 = if (8 - r).testBit 1 then p1 * a ^ 2 else p1)
    (h3 : p3 = if (8 - r).testBit 2 then p2 * a ^ 4 else p2) :
    (if (8 - r).testBit 3 then p3 * a ^ 8 else p3) = a ^ (8 - r) := by
  subst h3 h2 h1
  interval_cases r <;> norm_num [Nat.testBit, Nat.shiftRight_eq_div_pow] <;> ring

end Cert.Scan

end
-- ==== Proof.ScanVec.lean ====
/- The kernel's vectors of eight rows and 512 lanes, at the ideal semantics and at finite entries: a pair of them read
   as one array of complex numbers, and what the kernel's combinations of them mean there. -/
module

public import proofs.«01_k».proof.KernelIdeal
public import proofs.«01_k».proof.Proof.Gen.KernelIdeal
public import proofs.«01_k».proof.Proof.Gen.KernelIdeal.Skeleton
public import proofs.«01_k».proof.Proof.ScanMath
public import Idealize.ShloMosaic.Lib.Pointwise

@[expose] public section

noncomputable section

namespace Cert.Scan

open Idealize.ShloMosaic Cert.KernelIdeal Cert.KernelIdeal.Gen

/-- An 8 × 512 vector of the kernel. -/
abbrev V8 : Type := FVec Ideal S8x512 .f32

/-- `x` and `y` are the real and the imaginary part of `z`. -/
def IsC (x y : V8) (z : ℕ → Fin 512 → ℂ) : Prop :=
  ∀ (r : Fin 8) (l : Fin 512), x (ix2 r l) = (((z r l).re : ℝ) : EReal) ∧ y (ix2 r l) = (((z r l).im : ℝ) : EReal)

theorem IsC.congr {x y : V8} {z z' : ℕ → Fin 512 → ℂ} (h : IsC x y z) (hz : ∀ r, r < 8 → ∀ l, z r l = z' r l) : IsC x y z' :=
  fun r l => by rw [← hz r r.isLt l]; exact h r l

/-- `z + w * v`, in the order of the kernel's operations. -/
theorem IsC.fma {x y wr wi x' y' : V8} {z w v : ℕ → Fin 512 → ℂ} (h : IsC x y z) (hw : IsC wr wi w) (hv : IsC x' y' v) :
    IsC (subf (addf x (mulf wr x')) (mulf wi y')) (addf (addf y (mulf wr y')) (mulf wi x')) fun r l => z r l + w r l * v r l := by
  intro r l
  obtain ⟨h1, h2⟩ := h r l
  obtain ⟨h3, h4⟩ := hw r l
  obtain ⟨h5, h6⟩ := hv r l
  constructor <;> pointwise
  · rw [h1, h3, h4, h5, h6]
    norm_cast
    simp only [Complex.add_re, Complex.mul_re]
    ring
  · rw [h2, h3, h4, h5, h6]
    norm_cast
    simp only [Complex.add_im, Complex.mul_im]
    ring

/-- `z * w`. -/
theorem IsC.mul {x y x' y' : V8} {z w : ℕ → Fin 512 → ℂ} (h : IsC x y z) (h' : IsC x' y' w) :
    IsC (subf (mulf x x') (mulf y y')) (addf (mulf x y') (mulf y x')) fun r l => z r l * w r l := by
  intro r l
  obtain ⟨h1, h2⟩ := h r l
  obtain ⟨h3, h4⟩ := h' r l
  constructor <;> pointwise
  · rw [h1, h2, h3, h4, Complex.mul_re]
    norm_cast
  · rw [h1, h2, h3, h4, Complex.mul_im]
    norm_cast

/-- The float of the kernel's literal two. -/
theorem two_f32 : Ideal.ofBits .f32 0x40000000#32 = ((2 : ℝ) : EReal) := by
  simp [Ideal.ofBits, Ideal.ieee, -EReal.coe_mul]; norm_num

/-- `z * z`. -/
theorem IsC.sq {x y : V8} {z : ℕ → Fin 512 → ℂ} (h : IsC x y z) :
    IsC (subf (mulf x x) (mulf y y)) (mulf (mulf (broadcast S8x512 (Scalar.ofBits .f32 0x40000000#32)) x) y) fun r l => z r l * z r l := by
  intro r l
  obtain ⟨h1, h2⟩ := h r l
  constructor <;> pointwise
  · rw [h1, h2, Complex.mul_re]
    norm_cast
  · rw [h1, h2, Complex.mul_im, two_f32]
    norm_cast
    ring

/-- A selection by the row. -/
theorem IsC.select {m : IVec S8x512 1} {x y x' y' : V8} {z w : ℕ → Fin 512 → ℂ} (p : ℕ → Prop) [DecidablePred p]
    (hm : ∀ (r : Fin 8) (l : Fin 512), m (ix2 r l) = if p r then 1#1 else 0#1) (h : IsC x y z) (h' : IsC x' y' w) :
    IsC (select m x x') (select m y y') fun r l => if p r then z r l else w r l := by
  intro r l
  have hr := hm r l
  by_cases hp : p r
  · rw [if_pos hp] at hr
    constructor <;> pointwise <;> simp [hr, hp, h r l, Scalar.select]
  · rw [if_neg hp] at hr
    constructor <;> pointwise <;> simp [hr, hp, h' r l, Scalar.select]

/-- The vector of zeros. -/
theorem isC_zero : IsC (broadcast S8x512 (Scalar.ofBits .f32 0x00000000#32)) (broadcast S8x512 (Scalar.ofBits .f32 0x00000000#32))
    fun _ _ => 0 := by
  intro r l
  constructor <;> pointwise <;> simp

/-- The vector of ones. -/
theorem isC_one : IsC (broadcast S8x512 (Scalar.ofBits .f32 0x3F800000#32)) (broadcast S8x512 (Scalar.ofBits .f32 0x00000000#32))
    fun _ _ => 1 := by
  intro r l
  constructor <;> pointwise <;> simp

/-- The row numbers. -/
abbrev rows : IVec S8x512 32 := iota .tc S8x512 32 [0] iota_S8x512_d0_w32

/-- The comparison of a row number with `8 - k`. -/
theorem row_lt (k : ℕ) (hk : k < 8) (r : Fin 8) :
    IntOp.cmpi .slt (BitVec.ofNat 32 (r : ℕ)) (BitVec.ofNat 32 (8 - k)) = if (r : ℕ) < 8 - k then 1#1 else 0#1 := by
  interval_cases k <;> fin_cases r <;> decide

/-- The rows moved up by `k`, zero where the group has no such row. -/
theorem IsC.shift {x y : V8} {z : ℕ → Fin 512 → ℂ} (h : IsC x y z) (k : ℕ) (hk : 0 < k) (hk' : k < 8) :
    IsC (Idealize.ShloMosaic.select (cmpi .slt rows (broadcast S8x512 (BitVec.ofNat 32 (8 - k)))) (dynamicRotate 0 (BitVec.ofNat 32 (8 - k)) none x rotates_S8x512_d0)
          (broadcast S8x512 (Scalar.ofBits .f32 0x00000000#32)))
        (Idealize.ShloMosaic.select (cmpi .slt rows (broadcast S8x512 (BitVec.ofNat 32 (8 - k)))) (dynamicRotate 0 (BitVec.ofNat 32 (8 - k)) none y rotates_S8x512_d0)
          (broadcast S8x512 (Scalar.ofBits .f32 0x00000000#32)))
      fun r l => if r < 8 - k then z (r + k) l else 0 := by
  have hk8 : (BitVec.ofNat 32 (8 - k)).toNat % 8 = 8 - k := by
    rw [BitVec.toNat_ofNat, Nat.mod_eq_of_lt (by omega : 8 - k < 2 ^ 32)]
    omega
  intro r l
  have key : ∀ (u : V8) (f : ℂ → ℝ), f 0 = 0 → (∀ (r : Fin 8) (l : Fin 512), u (ix2 r l) = ((f (z r l) : ℝ) : EReal)) →
      Scalar.select (IntOp.cmpi .slt (BitVec.ofNat 32 (r : ℕ)) (BitVec.ofNat 32 (8 - k)))
        (u (ix2 ⟨((r : ℕ) + 8 - (BitVec.ofNat 32 (8 - k)).toNat % 8) % 8, Nat.mod_lt _ (by decide)⟩ l)) (0 : EReal)
        = ((f (if (r : ℕ) < 8 - k then z (r + k) l else 0) : ℝ) : EReal) := by
    intro u f hf hu
    rw [row_lt k hk' r]
    by_cases hr : (r : ℕ) < 8 - k
    · have hi : ((r : ℕ) + 8 - (BitVec.ofNat 32 (8 - k)).toNat % 8) % 8 = r + k := by
        rw [hk8]
        omega
      rw [if_pos hr, if_pos hr, hu]
      simp only [hi]
      rfl
    · rw [if_neg hr, if_neg hr, hf]
      rfl
  constructor
  · pointwise
    exact key x Complex.re rfl fun r l => (h r l).1
  · pointwise
    exact key y Complex.im rfl fun r l => (h r l).2

/-- A row of 512 lanes at every one of the eight rows. -/
theorem isC_rows {x y : FVec Ideal S1x512 .f32} {z : Fin 512 → ℂ}
    (h : ∀ l, x (ix2 0 l) = (((z l).re : ℝ) : EReal) ∧ y (ix2 0 l) = (((z l).im : ℝ) : EReal)) :
    IsC (k0_pay25 x) (k0_pay26 y) fun _ l => z l := by
  intro r l
  constructor
  · pointwise [k0_pay25]
    exact (h l).1
  · pointwise [k0_pay26]
    exact (h l).2

end Cert.Scan

end
-- ==== Proof.ScanTrip.lean ====
/- One trip of the kernel's loop over groups of eight rows, as arithmetic: at finite entries the two vectors it stores
   are the real and the imaginary part of the recurrence on the group, and the carried values it hands on are those of
   the group's first row, at every row. -/
module

public import proofs.«01_k».proof.Proof.ScanVec

@[expose] public section

noncomputable section

namespace Cert.Scan

open Idealize.ShloMosaic Cert.KernelIdeal Cert.KernelIdeal.Gen

variable {x y : FVec Ideal S1x512 .f32} {a : Fin 512 → ℂ}

/-- The two rows of the coefficient hold the real and the imaginary part of `a`. -/
abbrev IsRow (x y : FVec Ideal S1x512 .f32) (a : Fin 512 → ℂ) : Prop :=
  ∀ l, x (ix2 0 l) = (((a l).re : ℝ) : EReal) ∧ y (ix2 0 l) = (((a l).im : ℝ) : EReal)

/-! The coefficient's powers. -/

theorem isC_pow2 (h : IsRow x y a) : IsC (k0_pay27 x y) (k0_pay28 x y) fun _ l => a l ^ 2 :=
  (isC_rows h).sq.congr fun _ _ _ => (pow_two _).symm

theorem isC_pow4 (h : IsRow x y a) : IsC (k0_pay29 x y) (k0_pay30 x y) fun _ l => a l ^ 4 :=
  (isC_pow2 h).sq.congr fun _ _ _ => by ring

theorem isC_pow8 (h : IsRow x y a) : IsC (k0_pay31 x y) (k0_pay32 x y) fun _ l => a l ^ 8 :=
  (isC_pow4 h).sq.congr fun _ _ _ => by ring

/-- A binary digit of `8 - r`, as the kernel reads it. -/
theorem digit_eq (n : ℕ) (hn : n < 4) (r : Fin 8) (l : Fin 512) :
    cmpi .eq (andi (shrsi k0_pay33 (broadcast S8x512 (BitVec.ofNat 32 n))) (broadcast S8x512 1#32)) (broadcast S8x512 1#32) (ix2 r l)
      = if (8 - (r : ℕ)).testBit n then 1#1 else 0#1 := by
  pointwise [k0_pay33]
  interval_cases n <;> fin_cases r <;> decide

/-- The kernel's two vectors of powers. -/
abbrev powRe (x y : FVec Ideal S1x512 .f32) : V8 :=
  k0_pay47 (k0_pay25 x) (k0_pay26 y) (k0_pay27 x y) (k0_pay28 x y) (k0_pay29 x y) (k0_pay30 x y) (k0_pay31 x y) (k0_pay32 x y)
    k0_pay33 k0_pay34 k0_pay35 k0_pay36 (k0_pay37 x y)
abbrev powIm (x y : FVec Ideal S1x512 .f32) : V8 :=
  k0_pay48 (k0_pay25 x) (k0_pay26 y) (k0_pay27 x y) (k0_pay28 x y) (k0_pay29 x y) (k0_pay30 x y) (k0_pay31 x y) (k0_pay32 x y)
    k0_pay33 k0_pay34 k0_pay35 k0_pay36 (k0_pay37 x y)

/-- Row `r` of the powers is `a ^ (8 - r)`. -/
theorem isC_powers (h : IsRow x y a) : IsC (powRe x y) (powIm x y) fun r l => a l ^ (8 - r) := by
  have p1 := IsC.select (fun r => (8 - r).testBit 0) (digit_eq 0 (by decide)) (isC_one.mul (isC_rows h)) isC_one
  have p2 := IsC.select (fun r => (8 - r).testBit 1) (digit_eq 1 (by decide)) (p1.mul (isC_pow2 h)) p1
  have p3 := IsC.select (fun r => (8 - r).testBit 2) (digit_eq 2 (by decide)) (p2.mul (isC_pow4 h)) p2
  have p4 := IsC.select (fun r => (8 - r).testBit 3) (digit_eq 3 (by decide)) (p3.mul (isC_pow8 h)) p3
  exact IsC.congr p4 fun r hr l => digits_eq (a l) r hr _ _ _ rfl rfl rfl

variable {u v c d : V8} {z : ℕ → Fin 512 → ℂ} {g : ℕ → Fin 512 → ℂ}

/-! The vectors a trip stores, of the group's two input vectors `u`, `v` and the two carried ones `c`, `d`. -/
abbrev tripRe (x y : FVec Ideal S1x512 .f32) (u v c d : V8) : V8 :=
  k0_pay4 rows (k0_pay29 x y) (k0_pay30 x y) (powRe x y) (powIm x y) c d
    (k0_pay18 (k0_pay25 x) (k0_pay26 y) rows (k0_pay27 x y) (k0_pay28 x y) u v)
    (k0_pay20 (k0_pay25 x) (k0_pay26 y) rows (k0_pay27 x y) (k0_pay28 x y) u v)
    (k0_pay21 (k0_pay25 x) (k0_pay26 y) rows (k0_pay27 x y) (k0_pay28 x y) u v) k0_pay22
abbrev tripIm (x y : FVec Ideal S1x512 .f32) (u v c d : V8) : V8 :=
  k0_pay5 rows (k0_pay29 x y) (k0_pay30 x y) (powRe x y) (powIm x y) c d
    (k0_pay19 (k0_pay25 x) (k0_pay26 y) rows (k0_pay27 x y) (k0_pay28 x y) u v)
    (k0_pay20 (k0_pay25 x) (k0_pay26 y) rows (k0_pay27 x y) (k0_pay28 x y) u v)
    (k0_pay21 (k0_pay25 x) (k0_pay26 y) rows (k0_pay27 x y) (k0_pay28 x y) u v) k0_pay22

/-- The stored vectors are the recurrence on the group, if the carried ones are its value at the row after the group. -/
theorem isC_trip (h : IsRow x y a) (hu : IsC u v fun r l => g r l - a l * g (r + 1) l) (hc : IsC c d fun _ l => g 8 l) :
    IsC (tripRe x y u v c d) (tripIm x y u v c d) g := by
  have s1 := hu.fma (isC_rows h) (hu.shift 1 (by decide) (by decide))
  have s2 := s1.fma (isC_pow2 h) (s1.shift 2 (by decide) (by decide))
  have s3 := s2.fma (isC_pow4 h) (s2.shift 4 (by decide) (by decide))
  refine IsC.congr (s3.fma (isC_powers h) hc) fun r hr l => ?_
  exact group_eq (a l) (fun r => g r l - a l * g (r + 1) l) (fun r => g r l) (fun _ _ => rfl) r hr

/-- The first row of a vector, at every row. -/
theorem isC_carry {p q : V8} (h : IsC p q g) :
    IsC (broadcastTo S8x512 (shapeCast S1x512 (extractStridedSlice S1x512 ![0, 0] p slices_S8x512_o0_0_S1x512) shapeCasts_S1x512_S1x512) broadcasts_S1x512_S8x512)
      (broadcastTo S8x512 (shapeCast S1x512 (extractStridedSlice S1x512 ![0, 0] q slices_S8x512_o0_0_S1x512) shapeCasts_S1x512_S1x512) broadcasts_S1x512_S8x512)
      fun _ l => g 0 l := by
  intro r l
  constructor
  · pointwise
    exact (h 0 l).1
  · pointwise
    exact (h 0 l).2

end Cert.Scan

end
-- ==== Proof.ScanLoop.lean ====
/- The kernel's loop over the groups of eight rows of a tile, last group first: if the tile's two inputs are the inputs of a
   recurrence `g` (`g r = u r + a * g (r + 1)`) and the carried values are `g` at the row after the tile, then after `k` groups
   the last `8 k` rows of the two outputs hold `g` and the carried values are `g` at the first of those rows. -/
module

public import proofs.«01_k».proof.Proof.ScanTrip
public import proofs.«01_k».proof.Proof.Gen.KernelIdeal.Frame
public import Idealize.ShloMosaic.Lib.WritesUnit
public import Idealize.ShloMosaic.Lib.Pipeline.ValueKit.Tiles
public import Idealize.ShloMosaic.Lib.VecWindow

@[expose] public section

set_option maxRecDepth 16384

noncomputable section

namespace Cert.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- The tile's rows from `o` on hold the real or imaginary part (`p`) of `g`. -/
def Holds (f : Vec Ideal S256x512 .f32) (p : ℂ → ℝ) (g : ℕ → Fin 512 → ℂ) (o : ℕ) : Prop :=
  ∀ (r : Fin 256) (l : Fin 512), o ≤ r → f (ix2 r l) = ((p (g r l) : ℝ) : EReal)

section

variable (c : Dev nD) (i : grid0.Coords)
  {arg2 : Memref sig .tc .vmem S256x512 .f32} (harg2 : arg2.IsWhole) {arg3 : Memref sig .tc .vmem S256x512 .f32} (harg3 : arg3.IsWhole)
  {arg4 : Memref sig .tc .vmem S1x512 .f32} (harg4 : arg4.IsWhole) {arg5 : Memref sig .tc .vmem S1x512 .f32} (harg5 : arg5.IsWhole)
  {arg6 : Memref sig .tc .vmem S256x512 .f32} (harg6 : arg6.IsWhole) {arg7 : Memref sig .tc .vmem S256x512 .f32} (harg7 : arg7.IsWhole)
  {arg8 : Memref sig .tc .vmem S8x512 .f32} (harg8 : arg8.IsWhole) {arg9 : Memref sig .tc .vmem S8x512 .f32} (harg9 : arg9.IsWhole)
  (x y : FVec Ideal S1x512 .f32) (u v : Vec Ideal S256x512 .f32) (g : ℕ → Fin 512 → ℂ)

/-- Before group `k`. -/
def loopAt (k : ℕ) (acc : Vec Ideal S8x512 .f32 × Vec Ideal S8x512 .f32) : sProp 𝕄 :=
  iprop((arg2.view.loc (c : Thread nD τ) ↦[arg2.view.set]{fullShare} harg2.unread u)
    ∗ (arg3.view.loc (c : Thread nD τ) ↦[arg3.view.set]{fullShare} harg3.unread v)
    ∗ (∃ f, (arg6.view.loc (c : Thread nD τ) ↦[arg6.view.set]{fullShare} f) ∗ ⌜Holds (arg6.view.read (Elt Ideal) f) Complex.re g (256 - 8 * k)⌝)
    ∗ (∃ f, (arg7.view.loc (c : Thread nD τ) ↦[arg7.view.set]{fullShare} f) ∗ ⌜Holds (arg7.view.read (Elt Ideal) f) Complex.im g (256 - 8 * k)⌝)
    ∗ ⌜IsC acc.1 acc.2 fun _ l => g (256 - 8 * k) l⌝)

variable {a : Fin 512 → ℂ} (hxy : IsRow x y a)
  (hu : ∀ (r : Fin 256) (l : Fin 512), u (ix2 r l) = (((g r l - a l * g (r + 1) l).re : ℝ) : EReal)
    ∧ v (ix2 r l) = (((g r l - a l * g (r + 1) l).im : ℝ) : EReal))

/-- What group `k` reads of a tile. -/
def groupOf (k : Fin k0_t1_loop.trips) (u : Vec Ideal S256x512 .f32) : V8 :=
  View.ld (Val := Elt Ideal) (e' := .f32) u (Rect.unit (s := S256x512) (k0_off1 k) S8x512.size (k0_off1_inb k))

/-- Row `r` of group `k` is row `248 - 8 k + r` of the tile. -/
theorem groupOf_eq (k : Fin k0_t1_loop.trips) (u : Vec Ideal S256x512 .f32) (r : Fin 8) (l : Fin 512) :
    groupOf k u (ix2 r l) = u (ix2 ⟨248 - 8 * k + r, by have := r.isLt; omega⟩ l) :=
  View.ld_unit_apply_of _ _ _ _ _ _ fun b => by
    refine Eq.trans ?_ (congrArg (· + ((ix2 r l : S8x512.Idx) b : ℕ)) (congrFun (k0_off1_eq k) b).symm)
    fin_cases b
    · rfl
    · exact (Nat.zero_add _).symm

include hu in
/-- The group's inputs are those of the recurrence shifted to the group. -/
theorem isC_group (k : Fin k0_t1_loop.trips) :
    IsC (groupOf k u) (groupOf k v) fun r l => g (248 - 8 * k + r) l - a l * g (248 - 8 * k + (r + 1)) l := fun r l => by
  rw [groupOf_eq, groupOf_eq]
  exact hu _ l

/-- Rows of group `k` stored over an output that holds the rows after it. -/
theorem holds_store {arg : Memref sig .tc .vmem S256x512 .f32} (f : arg.view.ty.Contents (Elt Ideal)) (p : ℂ → ℝ) (k : Fin k0_t1_loop.trips)
    (hk : k.val < 32) (w : V8) (h : Holds (arg.view.read (Elt Ideal) f) p g (256 - 8 * k))
    (hw : ∀ (r : Fin 8) (l : Fin 512), w (ix2 r l) = ((p (g (248 - 8 * k + r) l) : ℝ) : EReal)) :
    Holds (arg.view.read (Elt Ideal) (arg.view.writes (Elt Ideal) f
      [⟨Rect.unit (s := S256x512) (k0_off1 k) S8x512.size (k0_off1_inb k), w⟩])) p g (256 - 8 * (k.val + 1)) := by
  intro r l hr
  by_cases hlt : r.val < 256 - 8 * k
  · refine (View.read_writes_cons_rows_of_mem arg.view f (k0_off1_inb k) w [] (ix2 r l) (ix2 (⟨r - (248 - 8 * k), by omega⟩ : Fin 8) l)
      (k0_off1_eq k) (by show r.val = 248 - 8 * k + (r.val - (248 - 8 * k)); omega) rfl).trans ((hw _ l).trans ?_)
    rw [show 248 - 8 * k.val + ((⟨r - (248 - 8 * k), by omega⟩ : Fin 8) : ℕ) = r.val from by show 248 - 8 * k.val + (r.val - (248 - 8 * k)) = r.val; omega]
  · refine (View.read_writes_cons_rows_of_not_mem arg.view f (k0_off1_inb k) w [] (ix2 r l) (W := 8) (k0_off1_eq k) rfl
      (by right; show 248 - 8 * k.val + 8 ≤ r.val; omega)).trans ?_
    exact h r l (by omega)

include hxy hu in
/-- One group. -/
theorem loop_step (k : Fin k0_t1_loop.trips) (acc : Vec Ideal S8x512 .f32 × Vec Ideal S8x512 .f32) :
    loopAt (arg6 := arg6) (arg7 := arg7) c harg2 harg3 u v g k acc
      ⊢ wp frame (wpE (defs₀ (F := Ideal)) Variants.none (c : Thread nD τ) none) Set.univ
          (k0_t1_body (F := Ideal) i arg2 harg2 arg3 harg3 arg4 harg4 arg5 harg5 arg6 harg6 arg7 harg7 arg8 harg8 arg9 harg9
            (k0_pay25 x) (k0_pay26 y) rows (k0_pay27 x y) (k0_pay28 x y) (k0_pay29 x y) (k0_pay30 x y) (powRe x y) (powIm x y) k acc)
          (fun acc => loopAt (arg6 := arg6) (arg7 := arg7) c harg2 harg3 u v g (k + 1) acc) := by
  have hk : k.val < 32 := lt_of_lt_of_eq k.isLt (by decide)
  unfold loopAt k0_t1_body
  simp only [k0_part1_eq_skeleton]
  iintro ⟨HX, HY, ⟨%f6, H6, %h6⟩, ⟨%f7, H7, %h7⟩, %hacc⟩
  have hc : IsC acc.1 acc.2 fun _ l => g (248 - 8 * k + 8) l :=
    hacc.congr fun _ _ l => by rw [show 256 - 8 * k.val = 248 - 8 * k.val + 8 from by omega]
  have hu' : IsC (arg2.view.readAt (Elt Ideal) (Rect.unit (s := S256x512) (k0_off1 k) S8x512.size (k0_off1_inb k)).toLoadRect (harg2.unread u))
      (arg3.view.readAt (Elt Ideal) (Rect.unit (s := S256x512) (k0_off1 k) S8x512.size (k0_off1_inb k)).toLoadRect (harg3.unread v))
      fun r l => g (248 - 8 * k + r) l - a l * g (248 - 8 * k + (r + 1)) l := by
    rw [View.readAt_eq_ld, View.readAt_eq_ld, harg2.read_unread, harg3.read_unread]
    exact isC_group u v g hu k
  have T := isC_trip (g := fun r l => g (248 - 8 * k + r) l) hxy hu' hc
  sl_exec
  sl_step
  isplitl [HX]; · iexact HX
  isplitl [HY]; · iexact HY
  isplitl [H6]
  · iexists _; isplitl [H6]; · iexact H6
    ipureintro
    exact holds_store g f6 Complex.re k hk _ h6 fun r l => (T r l).1
  isplitl [H7]
  · iexists _; isplitl [H7]; · iexact H7
    ipureintro
    exact holds_store g f7 Complex.im k hk _ h7 fun r l => (T r l).2
  ipureintro
  refine IsC.congr (isC_carry T) fun _ _ l => ?_
  show g (248 - 8 * k.val + 0) l = _
  rw [show 248 - 8 * k.val + 0 = 256 - 8 * (k.val + 1) from by omega]

/-- The loop, by its invariant. -/
@[instance_reducible] def scanLoop (init : Vec Ideal S8x512 .f32 × Vec Ideal S8x512 .f32) :
    Idealize.ShloMosaic.LoopInv (M := 𝕄) frame (wpE (defs₀ (F := Ideal)) Variants.none (c : Thread nD τ) none) Set.univ
      k0_t1_loop.lb k0_t1_loop.ub k0_t1_loop.st k0_t1_ok init
      (k0_t1_body (F := Ideal) i arg2 harg2 arg3 harg3 arg4 harg4 arg5 harg5 arg6 harg6 arg7 harg7 arg8 harg8 arg9 harg9
        (k0_pay25 x) (k0_pay26 y) rows (k0_pay27 x y) (k0_pay28 x y) (k0_pay29 x y) (k0_pay30 x y) (powRe x y) (powIm x y)) where
  inv k acc := loopAt (arg6 := arg6) (arg7 := arg7) c harg2 harg3 u v g k acc
  step k acc := loop_step c i harg2 harg3 harg4 harg5 harg6 harg7 harg8 harg9 x y u v g hxy hu k acc

end

end Cert.Scan

end
-- ==== Proof.ScanBody.lean ====
/- The kernel's body at one grid point: from inputs of the recurrence `g` on the tile's 256 rows, and from the carried rows
   at `g` after the tile (or, at the first tile of a lane block, from nothing if `g` is zero there), it leaves `g` in the
   outputs and `g` at the tile's first row in the carried rows. -/
module

public import proofs.«01_k».proof.Proof.ScanLoop

@[expose] public section

set_option maxRecDepth 16384

noncomputable section

namespace Cert.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- The body's condition: the grid point is the first of its lane block. -/
abbrev isFirst (i : grid0.Coords) : Prop :=
  (Scalar.cmpi .ne (Scalar.extui (Scalar.cmpi .eq (BitVec.ofNat 32 (i 1).val) 0#32)) 0#32) = 1#1

variable (c : Dev nD) (i : grid0.Coords)
  {arg2 : Memref sig .tc .vmem S256x512 .f32} (harg2 : arg2.IsWhole) {arg3 : Memref sig .tc .vmem S256x512 .f32} (harg3 : arg3.IsWhole)
  {arg4 : Memref sig .tc .vmem S1x512 .f32} (harg4 : arg4.IsWhole) {arg5 : Memref sig .tc .vmem S1x512 .f32} (harg5 : arg5.IsWhole)
  {arg6 : Memref sig .tc .vmem S256x512 .f32} (harg6 : arg6.IsWhole) {arg7 : Memref sig .tc .vmem S256x512 .f32} (harg7 : arg7.IsWhole)
  {arg8 : Memref sig .tc .vmem S8x512 .f32} (harg8 : arg8.IsWhole) {arg9 : Memref sig .tc .vmem S8x512 .f32} (harg9 : arg9.IsWhole)
  (x y : FVec Ideal S1x512 .f32) (u v : Vec Ideal S256x512 .f32) (g : ℕ → Fin 512 → ℂ)

/-- The part `p` of `g`, as a tile. -/
def tileOf (p : ℂ → ℝ) (g : ℕ → Fin 512 → ℂ) : Vec Ideal S256x512 .f32 := fun j => ((p (g (j 0).val (j 1)) : ℝ) : EReal)
/-- The part `p` of `g` at row `o`, at each of eight rows. -/
def rowOf (p : ℂ → ℝ) (g : ℕ → Fin 512 → ℂ) (o : ℕ) : V8 := fun j => ((p (g o (j 1)) : ℝ) : EReal)

/-- What the body starts with, apart from the carried rows. -/
def bodyIn : sProp 𝕄 :=
  iprop(owns (c : Thread nD τ) arg2 fullShare u ∗ owns (c : Thread nD τ) arg3 fullShare v ∗ owns (c : Thread nD τ) arg4 fullShare x
    ∗ owns (c : Thread nD τ) arg5 fullShare y ∗ (∃ d, owns (c : Thread nD τ) arg6 fullShare d) ∗ (∃ d, owns (c : Thread nD τ) arg7 fullShare d))

/-- What the body ends with. -/
def bodyOut : sProp 𝕄 :=
  iprop(owns (c : Thread nD τ) arg2 fullShare u ∗ owns (c : Thread nD τ) arg3 fullShare v ∗ owns (c : Thread nD τ) arg4 fullShare x
    ∗ owns (c : Thread nD τ) arg5 fullShare y ∗ owns (c : Thread nD τ) arg6 fullShare (tileOf Complex.re g) ∗ owns (c : Thread nD τ) arg7 fullShare (tileOf Complex.im g)
    ∗ owns (c : Thread nD τ) arg8 fullShare (rowOf Complex.re g 0) ∗ owns (c : Thread nD τ) arg9 fullShare (rowOf Complex.im g 0))

variable {a : Fin 512 → ℂ} (hxy : IsRow x y a)
  (hu : ∀ (r : Fin 256) (l : Fin 512), u (ix2 r l) = (((g r l - a l * g (r + 1) l).re : ℝ) : EReal)
    ∧ v (ix2 r l) = (((g r l - a l * g (r + 1) l).im : ℝ) : EReal))

/-- No row is at 256 or beyond. -/
theorem holds_none (f : Vec Ideal S256x512 .f32) (p : ℂ → ℝ) : Holds f p g (256 - 8 * 0) :=
  fun r _ h => absurd r.isLt (by omega)

/-- The carried rows after the loop. -/
theorem eq_rowOf {p q : V8} {n : ℕ} (hn : n = 0) (h : IsC p q fun _ l => g n l) : p = rowOf Complex.re g 0 ∧ q = rowOf Complex.im g 0 := by
  subst hn
  constructor <;> funext j <;> rw [eq_ix2 j]
  · exact (h (j 0) (j 1)).1
  · exact (h (j 0) (j 1)).2

/-- The loop has 32 trips. -/
theorem after_trips : 256 - 8 * Scf.trips k0_t1_loop.lb k0_t1_loop.ub k0_t1_loop.st = 0 := by decide

/-- All rows are at 0 or beyond. -/
theorem eq_tileOf {f : Vec Ideal S256x512 .f32} {p : ℂ → ℝ} {n : ℕ} (hn : n = 0) (h : Holds f p g n) : f = tileOf p g := by
  subst hn
  funext j
  rw [eq_ix2 j]
  exact h (j 0) (j 1) (Nat.zero_le _)

set_option maxHeartbeats 1000000 in
include hxy hu in
/-- A tile that is not the first of its lane block. -/
theorem body_rest (hi : ¬ isFirst i) :
    iprop(bodyIn (arg2 := arg2) (arg3 := arg3) (arg4 := arg4) (arg5 := arg5) (arg6 := arg6) (arg7 := arg7) c x y u v
      ∗ owns (c : Thread nD τ) arg8 fullShare (rowOf Complex.re g 256) ∗ owns (c : Thread nD τ) arg9 fullShare (rowOf Complex.im g 256))
      ⊢ wp frame (wpE (defs₀ (F := Ideal)) Variants.none (c : Thread nD τ) none) Set.univ
          (cc0_s5_scan_b0 (F := Ideal) i arg2 harg2 arg3 harg3 arg4 harg4 arg5 harg5 arg6 harg6 arg7 harg7 arg8 harg8 arg9 harg9)
          (fun _ => bodyOut (arg2 := arg2) (arg3 := arg3) (arg4 := arg4) (arg5 := arg5) (arg6 := arg6) (arg7 := arg7) (arg8 := arg8) (arg9 := arg9) c x y u v g) := by
  simp only [cc0_s5_scan_b0_eq_skeleton]; unfold cc0_s5_scan_b0_skel
  simp only [k0_part2_eq_skeleton, k0_part3_eq_skeleton]
  unfold bodyIn bodyOut owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩⟩, ⟨%fs0, %hfs0, HS0⟩, ⟨%fs1, %hfs1, HS1⟩⟩
  obtain rfl := harg2.eq_unread hf0; obtain rfl := harg3.eq_unread hf1; obtain rfl := harg4.eq_unread hf2; obtain rfl := harg5.eq_unread hf3
  have hxy' : IsRow (arg4.view.readAt (Elt Ideal) (Rect.unit (s := S1x512) ![0, 0] S1x512.size inb_S1x512_S1x512_0_0).toLoadRect (harg4.unread x))
      (arg5.view.readAt (Elt Ideal) (Rect.unit (s := S1x512) ![0, 0] S1x512.size inb_S1x512_S1x512_0_0).toLoadRect (harg5.unread y)) a := by
    rw [View.readAt_full arg4.view, View.readAt_full arg5.view, hf2, hf3]
    exact hxy
  have h4 := holds_none g (arg6.view.read (Elt Ideal) f4) Complex.re
  have h5 := holds_none g (arg7.view.read (Elt Ideal) f5) Complex.im
  have hc : IsC (arg8.view.readAt (Elt Ideal) (Rect.unit (s := S8x512) ![0, 0] S8x512.size inb_S8x512_S8x512_0_0).toLoadRect fs0)
      (arg9.view.readAt (Elt Ideal) (Rect.unit (s := S8x512) ![0, 0] S8x512.size inb_S8x512_S8x512_0_0).toLoadRect fs1)
      fun _ l => g (256 - 8 * 0) l := by
    rw [View.readAt_full arg8.view, View.readAt_full arg9.view, hfs0, hfs1]
    exact fun r l => ⟨rfl, rfl⟩
  let L := scanLoop c i harg2 harg3 harg4 harg5 harg6 harg7 harg8 harg9 _ _ u v g hxy' hu
    (arg8.view.readAt (Elt Ideal) (Rect.unit (s := S8x512) ![0, 0] S8x512.size inb_S8x512_S8x512_0_0).toLoadRect fs0,
     arg9.view.readAt (Elt Ideal) (Rect.unit (s := S8x512) ![0, 0] S8x512.size inb_S8x512_S8x512_0_0).toLoadRect fs1)
  sl_exec (disch := first | sl_exact hi)
  sl_step
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact eq_tileOf g after_trips hL3
                  iexact H4
  isplitl [H5]; · iexists _; isplitr; · ipureintro; exact eq_tileOf g after_trips hL5
                  iexact H5
  isplitl [HS0]
  · iexists _; isplitr; swap; · iexact HS0
    ipureintro
    exact (View.read_writes_full arg8.view _ _ _ _).trans ((shapeCast_id _ _).trans (eq_rowOf g after_trips hL6).1)
  iexists _; isplitr; swap; · iexact HS1
  ipureintro
  exact (View.read_writes_full arg9.view _ _ _ _).trans ((shapeCast_id _ _).trans (eq_rowOf g after_trips hL6).2)

set_option maxHeartbeats 1000000 in
include hxy hu in
/-- The first tile of a lane block: `g` is zero after it. -/
theorem body_first (hi : isFirst i) (hg : ∀ l, g 256 l = 0) :
    iprop(bodyIn (arg2 := arg2) (arg3 := arg3) (arg4 := arg4) (arg5 := arg5) (arg6 := arg6) (arg7 := arg7) c x y u v
      ∗ (∃ d, owns (c : Thread nD τ) arg8 fullShare d) ∗ (∃ d, owns (c : Thread nD τ) arg9 fullShare d))
      ⊢ wp frame (wpE (defs₀ (F := Ideal)) Variants.none (c : Thread nD τ) none) Set.univ
          (cc0_s5_scan_b0 (F := Ideal) i arg2 harg2 arg3 harg3 arg4 harg4 arg5 harg5 arg6 harg6 arg7 harg7 arg8 harg8 arg9 harg9)
          (fun _ => bodyOut (arg2 := arg2) (arg3 := arg3) (arg4 := arg4) (arg5 := arg5) (arg6 := arg6) (arg7 := arg7) (arg8 := arg8) (arg9 := arg9) c x y u v g) := by
  simp only [cc0_s5_scan_b0_eq_skeleton]; unfold cc0_s5_scan_b0_skel
  simp only [k0_part2_eq_skeleton, k0_part3_eq_skeleton]
  unfold bodyIn bodyOut owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩⟩, ⟨%ds0, %fs0, -, HS0⟩, ⟨%ds1, %fs1, -, HS1⟩⟩
  obtain rfl := harg2.eq_unread hf0; obtain rfl := harg3.eq_unread hf1; obtain rfl := harg4.eq_unread hf2; obtain rfl := harg5.eq_unread hf3
  have hxy' : IsRow (arg4.view.readAt (Elt Ideal) (Rect.unit (s := S1x512) ![0, 0] S1x512.size inb_S1x512_S1x512_0_0).toLoadRect (harg4.unread x))
      (arg5.view.readAt (Elt Ideal) (Rect.unit (s := S1x512) ![0, 0] S1x512.size inb_S1x512_S1x512_0_0).toLoadRect (harg5.unread y)) a := by
    rw [View.readAt_full arg4.view, View.readAt_full arg5.view, hf2, hf3]
    exact hxy
  have h4 := holds_none g (arg6.view.read (Elt Ideal) f4) Complex.re
  have h5 := holds_none g (arg7.view.read (Elt Ideal) f5) Complex.im
  have hc : IsC (arg8.view.readCov (Val := Elt Ideal) [⟨Rect.unit (s := S8x512) ![0, 0] S8x512.size inb_S8x512_S8x512_0_0, k0_pay23 (F := Ideal)⟩]
        (Rect.unit (s := S8x512) ![0, 0] S8x512.size inb_S8x512_S8x512_0_0).toLoadRect)
      (arg9.view.readCov (Val := Elt Ideal) [⟨Rect.unit (s := S8x512) ![0, 0] S8x512.size inb_S8x512_S8x512_0_0, k0_pay24 (F := Ideal)⟩]
        (Rect.unit (s := S8x512) ![0, 0] S8x512.size inb_S8x512_S8x512_0_0).toLoadRect)
      fun _ l => g (256 - 8 * 0) l := by
    rw [View.readCov_full arg8.view, View.readCov_full arg9.view]
    unfold k0_pay23 k0_pay24
    simp only [shapeCast_id]
    exact isC_zero.congr fun _ _ l => (hg l).symm
  let L := scanLoop c i harg2 harg3 harg4 harg5 harg6 harg7 harg8 harg9 _ _ u v g hxy' hu
    (arg8.view.readCov (Val := Elt Ideal) [⟨Rect.unit (s := S8x512) ![0, 0] S8x512.size inb_S8x512_S8x512_0_0, k0_pay23 (F := Ideal)⟩]
        (Rect.unit (s := S8x512) ![0, 0] S8x512.size inb_S8x512_S8x512_0_0).toLoadRect,
     arg9.view.readCov (Val := Elt Ideal) [⟨Rect.unit (s := S8x512) ![0, 0] S8x512.size inb_S8x512_S8x512_0_0, k0_pay24 (F := Ideal)⟩]
        (Rect.unit (s := S8x512) ![0, 0] S8x512.size inb_S8x512_S8x512_0_0).toLoadRect)
  sl_exec (disch := first | sl_exact hi)
  sl_step
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact eq_tileOf g after_trips hL3
                  iexact H4
  isplitl [H5]; · iexists _; isplitr; · ipureintro; exact eq_tileOf g after_trips hL5
                  iexact H5
  isplitl [HS0]
  · iexists _; isplitr; swap; · iexact HS0
    ipureintro
    exact (View.read_writes_full arg8.view _ _ _ _).trans ((shapeCast_id _ _).trans (eq_rowOf g after_trips hL6).1)
  iexists _; isplitr; swap; · iexact HS1
  ipureintro
  exact (View.read_writes_full arg9.view _ _ _ _).trans ((shapeCast_id _ _).trans (eq_rowOf g after_trips hL6).2)

end Cert.Scan

end
-- ==== Proof.Spec.lean ====
/- The recurrence both programs compute, over complex numbers: from the arrays' finite entries, last row first,
   `g t = d t + conj λ * g (t + 1)`, `g` zero after the last row. -/
module

public import proofs.«01_k».proof.Proof.ScanVec

@[expose] public section

noncomputable section

namespace Cert.Scan

open Idealize.ShloMosaic Cert.KernelIdeal

/-- Every entry is a real number. -/
def AllReal {s : Shape} (X : FVec Ideal s .f32) : Prop := ∀ j, ((EReal.toReal (X j) : ℝ) : EReal) = X j

variable (ar ai : FVec Ideal S1x4096 .f32) (dr di : FVec Ideal S2048x4096 .f32)

/-- The conjugate of `λ` at lane `n`. -/
def coef (n : ℕ) : ℂ :=
  if h : n < 4096 then ⟨EReal.toReal (ar (ix2 0 ⟨n, h⟩)), -EReal.toReal (ai (ix2 0 ⟨n, h⟩))⟩ else 0

/-- The cotangent of row `t` at lane `n`. -/
def inp (t n : ℕ) : ℂ :=
  if h : t < 2048 ∧ n < 4096 then ⟨EReal.toReal (dr (ix2 ⟨t, h.1⟩ ⟨n, h.2⟩)), EReal.toReal (di (ix2 ⟨t, h.1⟩ ⟨n, h.2⟩))⟩ else 0

/-- After `k` rows from the last. -/
def back : ℕ → ℕ → ℂ
  | 0, _ => 0
  | k + 1, n => inp dr di (2047 - k) n + coef ar ai n * back k n

/-- The recurrence at row `t`. -/
def grad (t n : ℕ) : ℂ := back ar ai dr di (2048 - t) n

theorem grad_end (n : ℕ) : grad ar ai dr di 2048 n = 0 := rfl

theorem grad_step (t n : ℕ) (ht : t < 2048) :
    grad ar ai dr di t n = inp dr di t n + coef ar ai n * grad ar ai dr di (t + 1) n := by
  unfold grad
  obtain ⟨k, hk⟩ : ∃ k, 2048 - t = k + 1 := ⟨2047 - t, by omega⟩
  rw [hk, show 2048 - (t + 1) = k from by omega]
  show inp dr di (2047 - k) n + _ = _
  rw [show 2047 - k = t from by omega]

/-- The input of a row is what the recurrence adds there. -/
theorem grad_sub (t n : ℕ) (ht : t < 2048) :
    grad ar ai dr di t n - coef ar ai n * grad ar ai dr di (t + 1) n = inp dr di t n := by
  rw [grad_step _ _ _ _ t n ht]; ring

variable {ar ai dr di}

theorem coef_re (h : AllReal ar) (n : Fin 4096) : (((coef ar ai n).re : ℝ) : EReal) = ar (ix2 0 n) := by
  unfold coef; rw [dif_pos n.isLt]; exact h _

theorem coef_im (h : AllReal ai) (n : Fin 4096) : (((coef ar ai n).im : ℝ) : EReal) = -ai (ix2 0 n) := by
  unfold coef; rw [dif_pos n.isLt]
  show ((-EReal.toReal (ai (ix2 0 n)) : ℝ) : EReal) = _
  rw [EReal.coe_neg, h]

theorem inp_re (h : AllReal dr) (t : Fin 2048) (n : Fin 4096) : (((inp dr di t n).re : ℝ) : EReal) = dr (ix2 t n) := by
  unfold inp; rw [dif_pos ⟨t.isLt, n.isLt⟩]; exact h _

theorem inp_im (h : AllReal di) (t : Fin 2048) (n : Fin 4096) : (((inp dr di t n).im : ℝ) : EReal) = di (ix2 t n) := by
  unfold inp; rw [dif_pos ⟨t.isLt, n.isLt⟩]; exact h _

/-- The result arrays: the real part and the imaginary part of the recurrence. -/
def result (ar ai : FVec Ideal S1x4096 .f32) (dr di : FVec Ideal S2048x4096 .f32) (p : ℂ → ℝ) : FVec Ideal S2048x4096 .f32 :=
  fun j => ((p (grad ar ai dr di (j 0).val (j 1).val) : ℝ) : EReal)

end Cert.Scan

end
-- ==== Proof.KernelRun.lean ====
/- The kernel's launch at real entries: tile after tile the outputs receive the recurrence, the carried rows hold it at the
   last tile's first row, so the two result arrays are its real and its imaginary part. -/
module

public import proofs.«01_k».proof.Proof.ScanBody
public import proofs.«01_k».proof.Proof.Spec
public import proofs.«01_k».proof.Proof.Gen.KernelIdeal.Frame
public import Idealize.ShloMosaic.Lib.Pipeline.ValueKit

@[expose] public section

set_option maxRecDepth 16384

noncomputable section

namespace Cert.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The argument arrays of core `c`. -/
abbrev arrLr : FVec Ideal S1x4096 .f32 := m ((c : Thread nD τ).loc main_arg0)
abbrev arrLi : FVec Ideal S1x4096 .f32 := m ((c : Thread nD τ).loc main_arg1)
abbrev arrDr : FVec Ideal S2048x4096 .f32 := m ((c : Thread nD τ).loc main_arg2)
abbrev arrDi : FVec Ideal S2048x4096 .f32 := m ((c : Thread nD τ).loc main_arg3)

/-- Every argument entry is a real number. -/
structure RealArgs : Prop where
  lr : AllReal (arrLr m c)
  li : AllReal (arrLi m c)
  dr : AllReal (arrDr m c)
  di : AllReal (arrDi m c)

/-- The recurrence on the tile of grid point `t`: the tiles of a lane block come last rows first. -/
def tileG (t : ℕ) (r : ℕ) (l : Fin 512) : ℂ :=
  grad (arrLr m c) (arrLi m c) (arrDr m c) (arrDi m c) (256 * (7 - t % 8) + r) (512 * (t / 8) + l)

/-- The coefficients on the lanes of grid point `t`. -/
def tileA (t : ℕ) (l : Fin 512) : ℂ := coef (arrLr m c) (arrLi m c) (512 * (t / 8) + l)

/-- The first tile of a lane block is the last rows. -/
theorem tileG_first {t : ℕ} (h : t % 8 = 0) (l : Fin 512) : tileG m c t 256 l = 0 := by
  unfold tileG; rw [h]; exact grad_end _ _ _ _ _

/-- A later tile ends where the tile before it begins. -/
theorem tileG_next {t : ℕ} (h : ¬ t % 8 = 0) : tileG m c t 256 = tileG m c (t - 1) 0 := by
  funext l
  unfold tileG
  rw [show 256 * (7 - (t - 1) % 8) + 0 = 256 * (7 - t % 8) + 256 by omega, show (t - 1) / 8 = t / 8 by omega]

/-! ## Where the blocks lie -/

theorem index_eq : ∀ t : Fin cfg0.N, (win0_0.index t = ![7 - t.val % 8, t.val / 8] ∧ win0_1.index t = ![7 - t.val % 8, t.val / 8])
    ∧ (win0_2.index t = ![0, t.val / 8] ∧ win0_3.index t = ![0, t.val / 8])
    ∧ win0_4.index t = ![7 - t.val % 8, t.val / 8] ∧ win0_5.index t = ![7 - t.val % 8, t.val / 8] := by decide +kernel

theorem points_lt (t : Fin cfg0.N) : t.val < 64 := lt_of_lt_of_eq t.isLt (show cfg0.N = 64 from N_0)

/-- Row `r` of point `t`'s tile, in the whole array. -/
abbrev rowAt (t : Fin cfg0.N) (r : Fin 256) : Fin 2048 := ⟨256 * (7 - t.val % 8) + r, by omega⟩
/-- Lane `l` of point `t`'s tile, in the whole array. -/
abbrev laneAt (t : Fin cfg0.N) (l : Fin 512) : Fin 4096 := ⟨512 * (t.val / 8) + l, by have := points_lt t; omega⟩

/-- The negated imaginary part, as the host computes it. -/
theorem V_neg : (V m c main_v0 : FVec Ideal S1x4096 .f32) = Host.negf (arrLi m c) := by
  unfold V hostOps0
  simp only [StableHlo.after_cons, StableHlo.after_nil]
  rw [StableHlo.unary_result]

theorem iblk0 (t : Fin cfg0.N) (r : Fin 256) (l : Fin 512) : iblk m c 0 t (ix2 r l) = arrDr m c (ix2 (rowAt t r) (laneAt t l)) := by
  have h := (index_eq t).1.1
  have e : iblk m c 0 t (ix2 r l) = V m c main_arg2 (ix2 (rowAt t r) (laneAt t l)) := by blk_ext [iblk, h]
  exact e.trans (congrFun (V_main_arg2 m c) _)

theorem iblk1 (t : Fin cfg0.N) (r : Fin 256) (l : Fin 512) : iblk m c 1 t (ix2 r l) = arrDi m c (ix2 (rowAt t r) (laneAt t l)) := by
  have h := (index_eq t).1.2
  have e : iblk m c 1 t (ix2 r l) = V m c main_arg3 (ix2 (rowAt t r) (laneAt t l)) := by blk_ext [iblk, h]
  exact e.trans (congrFun (V_main_arg3 m c) _)

theorem iblk2 (t : Fin cfg0.N) (l : Fin 512) : iblk m c 2 t (ix2 0 l) = arrLr m c (ix2 0 (laneAt t l)) := by
  have h := (index_eq t).2.1.1
  have e : iblk m c 2 t (ix2 0 l) = V m c main_arg0 (ix2 0 (laneAt t l)) := by blk_ext [iblk, h]
  exact e.trans (congrFun (V_main_arg0 m c) _)

theorem iblk3 (t : Fin cfg0.N) (l : Fin 512) : (iblk m c 3 t : FVec Ideal S1x512 .f32) (ix2 0 l) = -(arrLi m c (ix2 0 (laneAt t l)) : EReal) := by
  have h := (index_eq t).2.1.2
  have e : iblk m c 3 t (ix2 0 l) = V m c main_v0 (ix2 0 (laneAt t l)) := by blk_ext [iblk, h]
  exact e.trans (congrFun (V_neg m c) _)

variable {m c}

/-- The coefficients' blocks at point `t`. -/
theorem isRow_blocks (hm : RealArgs m c) (t : Fin cfg0.N) : IsRow (iblk m c 2 t) (iblk m c 3 t) (tileA m c t.val) := fun l =>
  ⟨(iblk2 m c t l).trans (coef_re hm.lr (laneAt t l)).symm, (iblk3 m c t l).trans (coef_im hm.li (laneAt t l)).symm⟩

/-- The inputs' blocks at point `t`: what the recurrence adds at each row. -/
theorem input_blocks (hm : RealArgs m c) (t : Fin cfg0.N) (r : Fin 256) (l : Fin 512) :
    iblk m c 0 t (ix2 r l) = (((tileG m c t.val r l - tileA m c t.val l * tileG m c t.val (r + 1) l).re : ℝ) : EReal)
    ∧ iblk m c 1 t (ix2 r l) = (((tileG m c t.val r l - tileA m c t.val l * tileG m c t.val (r + 1) l).im : ℝ) : EReal) := by
  have e : tileG m c t.val r l - tileA m c t.val l * tileG m c t.val (r + 1) l
      = inp (arrDr m c) (arrDi m c) (rowAt t r).val (laneAt t l).val :=
    grad_sub _ _ _ _ _ _ (rowAt t r).isLt
  rw [e]
  exact ⟨(iblk0 m c t r l).trans (inp_re hm.dr _ _).symm, (iblk1 m c t r l).trans (inp_im hm.di _ _).symm⟩

variable (m c)

/-! ## The pipeline's proof data -/

/-- The carried rows' buffers. -/
abbrev keptRe := Memref.whole cc0_scratch0
abbrev keptIm := Memref.whole cc0_scratch1

/-- Before position `n`: at the start nothing is known of the carried rows; later they hold the recurrence at the first row of
    the tile before. -/
def inv : (n : ℕ) → n ≤ cfg0.N → sProp 𝕄
  | 0, _ => Pipeline.ΦA spec0 c
  | n + 1, _ => iprop((owns (c : Thread nD τ) keptRe fullShare (rowOf Complex.re (tileG m c n) 0)
      ∗ owns (c : Thread nD τ) keptIm fullShare (rowOf Complex.im (tileG m c n) 0)) ∗ (∃ r, prngReg c r))

theorem start_eq : (Pipeline.ΦA spec0 c : sProp 𝕄)
    = iprop(((∃ d, owns (c : Thread nD τ) keptRe fullShare d) ∗ (∃ d, owns (c : Thread nD τ) keptIm fullShare d)) ∗ (∃ r, prngReg c r)) := by
  unfold Pipeline.ΦA
  rw [scopedRest0_eq]
  simp only [owns_whole]
  try rfl

/-- The proof data: inputs keep their blocks, outputs receive the recurrence's tile. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileOf Complex.re (tileG m c t.val)
    | ⟨5, _⟩ => tileOf Complex.im (tileG m c t.val)
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem inv_before (t : Fin cfg0.N) : (dats m 0 c).Φ t.castSucc = inv m c t.val (Nat.le_of_lt t.isLt) := by
  dsimp only [dats]; exact Pipeline.Dat.Φ_castSucc (inv m c) t
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = tileOf Complex.re (tileG m c t.val) := by dsimp only [dats]
theorem after5 (t : Fin cfg0.N) : (dats m 0 c).after 5 t = tileOf Complex.im (tileG m c t.val) := by dsimp only [dats]
theorem before0 (t : Fin cfg0.N) (d) : (dats m 0 c).before 0 t d = iblk m c 0 t := before0_0_of m (dats m 0 c) (A_eq m c 0) (after0 m c) t d
theorem before1 (t : Fin cfg0.N) (d) : (dats m 0 c).before 1 t d = iblk m c 1 t := before0_1_of m (dats m 0 c) (A_eq m c 1) (after1 m c) t d
theorem before2 (t : Fin cfg0.N) (d) : (dats m 0 c).before 2 t d = iblk m c 2 t := before0_2_of m (dats m 0 c) (A_eq m c 2) (after2 m c) t d
theorem before3 (t : Fin cfg0.N) (d) : (dats m 0 c).before 3 t d = iblk m c 3 t := before0_3_of m (dats m 0 c) (A_eq m c 3) (after3 m c) t d

/-! ## The body at every point -/

/-- A point is the first of its lane block when its number is a multiple of eight. -/
theorem isFirst_iff (t : Fin cfg0.N) : isFirst (grid0.coords t) ↔ t.val % 8 = 0 := by
  have ht : t.val < 64 := points_lt t
  have e1 : (grid0.coords t 1).val = t.val / 1 % 8 := Pipeline.Grid.coords_val t 1 (by decide) rfl
  simp only [isFirst, e1]
  word_cmp

/-- What the pipeline hands the body at point `t`. -/
def pointPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it expects back. -/
def pointPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- What the body's triple leaves unread. -/
def untouched (t : Fin cfg0.N) : sProp 𝕄 := iprop((∃ r, prngReg c r) ∗ (dats m 0 c).owesAt () t.castSucc)

/-- The blocks of point `t`, as `bodyIn` takes them. -/
abbrev inAt (t : Fin cfg0.N) : sProp 𝕄 :=
  bodyIn c (arg2 := st0_0 t) (arg3 := st0_1 t) (arg4 := st0_2 t) (arg5 := st0_3 t) (arg6 := st0_4 t) (arg7 := st0_5 t)
    (iblk m c 2 t) (iblk m c 3 t) (iblk m c 0 t) (iblk m c 1 t)

/-- The same after the body. -/
abbrev outAt (t : Fin cfg0.N) : sProp 𝕄 :=
  bodyOut c (arg2 := st0_0 t) (arg3 := st0_1 t) (arg4 := st0_2 t) (arg5 := st0_3 t) (arg6 := st0_4 t) (arg7 := st0_5 t)
    (arg8 := keptRe) (arg9 := keptIm) (iblk m c 2 t) (iblk m c 3 t) (iblk m c 0 t) (iblk m c 1 t) (tileG m c t.val)

/-- The point's state after the body, put together. -/
theorem post_of_out (t : Fin cfg0.N) : iprop(outAt m c t ∗ untouched m c t) ⊢ pointPost m c t := by
  unfold pointPost outAt bodyOut untouched
  rw [show (dats m 0 c).owesAt () t.succ = (dats m 0 c).owesAt () t.castSucc from rfl,
    show (dats m 0 c).Φ t.succ = inv m c (t.val + 1) t.isLt from rfl, after0, after1, after2, after3, after4, after5]
  unfold inv
  iintro ⟨⟨H0, H1, H2, H3, H4, H5, S0, S1⟩, Hg, Ho⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The point's state before the body, taken apart: the carried rows first. -/
theorem pre_to_in (t : Fin cfg0.N) : pointPre m c t ⊢ iprop((dats m 0 c).Φ t.castSucc ∗ (dats m 0 c).owesAt () t.castSucc ∗ inAt m c t) := by
  unfold pointPre inAt bodyIn
  simp only [before0, before1, before2, before3]
  iintro ⟨HΦ, Ho, ⟨%d0, H0⟩, ⟨%d1, H1⟩, ⟨%d2, H2⟩, ⟨%d3, H3⟩, ⟨%d4, H4⟩, ⟨%d5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists _; iexact H4
  iexists _; iexact H5

/-- Whatever the position, the carried rows' buffers are there. -/
theorem inv_any (n : ℕ) (hn : n ≤ cfg0.N) : inv m c n hn
    ⊢ iprop(((∃ d, owns (c : Thread nD τ) keptRe fullShare d) ∗ (∃ d, owns (c : Thread nD τ) keptIm fullShare d)) ∗ (∃ r, prngReg c r)) := by
  cases n with
  | zero => unfold inv; rw [start_eq]
  | succ n =>
    unfold inv
    iintro ⟨⟨H0, H1⟩, Hg⟩
    isplitl [H0 H1]
    · isplitl [H0]
      · iexists _; iexact H0
      iexists _; iexact H1
    iexact Hg

/-- Before a point that is not the first of its lane block, the carried rows hold the recurrence after the point's tile. -/
theorem inv_rest {n : ℕ} (hn : n ≤ cfg0.N) (h : ¬ n % 8 = 0) : inv m c n hn
    = iprop((owns (c : Thread nD τ) keptRe fullShare (rowOf Complex.re (tileG m c n) 256)
      ∗ owns (c : Thread nD τ) keptIm fullShare (rowOf Complex.im (tileG m c n) 256)) ∗ (∃ r, prngReg c r)) := by
  have e (p : ℂ → ℝ) : rowOf p (tileG m c n) 256 = rowOf p (tileG m c (n - 1)) 0 := by
    unfold rowOf; rw [tileG_next m c h]
  rw [e, e]
  cases n with
  | zero => exact absurd (Nat.zero_mod 8) h
  | succ n => rfl

variable {m}

/-- The body at any point. -/
theorem body_point (hm : RealArgs m c) (t : Fin cfg0.N) :
    pointPre m c t ⊢ wp frame (wpE (defs₀ (F := Ideal)) Variants.none c none) Set.univ (bodyAt0 t) (fun _ => pointPost m c t) := by
  refine (pre_to_in m c t).trans ?_
  rw [inv_before]
  unfold bodyAt0
  by_cases h : t.val % 8 = 0
  · iintro ⟨HΦ, Ho, Hin⟩
    ihave HΦ := (inv_any m c _ _) $$ HΦ
    icases HΦ with ⟨⟨S0, S1⟩, Hg⟩
    iapply (wp_wand_r Idealize.ShloMosaic.frame (wpE (defs₀ (F := Ideal)) Variants.none (c : Thread nD τ) none) Set.univ)
    isplitl [Hin S0 S1]
    · iapply body_first c _ _ _ _ _ _ _ _ _ _ _ _ _ _ (isRow_blocks hm t) (input_blocks hm t) ((isFirst_iff t).mpr h) (tileG_first m c h)
      isplitl [Hin]; · iexact Hin
      isplitl [S0]; · iexact S0
      iexact S1
    · iintro %_ H
      iapply post_of_out m c t
      isplitl [H]; · iexact H
      unfold untouched
      isplitl [Hg]; · iexact Hg
      iexact Ho
  · rw [inv_rest m c _ h]
    iintro ⟨⟨⟨S0, S1⟩, Hg⟩, Ho, Hin⟩
    iapply (wp_wand_r Idealize.ShloMosaic.frame (wpE (defs₀ (F := Ideal)) Variants.none (c : Thread nD τ) none) Set.univ)
    isplitl [Hin S0 S1]
    · iapply body_rest c _ _ _ _ _ _ _ _ _ _ _ _ _ _ (isRow_blocks hm t) (input_blocks hm t) (fun hi => h ((isFirst_iff t).mp hi))
      isplitl [Hin]; · iexact Hin
      isplitl [S0]; · iexact S0
      iexact S1
    · iintro %_ H
      iapply post_of_out m c t
      isplitl [H]; · iexact H
      unfold untouched
      isplitl [Hg]; · iexact Hg
      iexact Ho

/-- The body table's row at point `t`. -/
theorem row_eq (t : Fin cfg0.N) : defs₀ (F := Ideal) .tc cfg0.body (cfg0.bodyArgs t (cfg0.slots t)) = bodyAt0 t := by
  unfold defs₀; rw [Defs.onTc_tc]

theorem obligation (hm : RealArgs m c) : BodyObligation (dats m 0 c) (defs₀ (F := Ideal)) Variants.none () Set.univ := fun t => by
  rw [bigSep_W0, bigSep_W0, row_eq]
  exact triple_restated (body_point c hm t) rfl .rfl fun _ => .rfl

variable (m)

set_option backward.isDefEq.respectTransparency.types false in
/-- The launch: every array of the pipeline ends at what the proof data says. -/
theorem run_tiles (hm : ∀ c, RealArgs m c) :
    θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (obligation c (hm c)).loose) (hshare := fun c => (dats m 0 c).share_full fun _ => rfl)
    (howed := fun _ _ => rfl) (V := V m) (hmain := hmain m Variants.none) (hA := A_eq m)
    (hin := fun c => by rw [show (dats m 0 c).Φ 0 = inv m c 0 (Nat.zero_le _) from rfl]; unfold inv; exact .rfl)
    (hout := fun c => by
      rw [show (dats m 0 c).Φ (Fin.last cfg0.N) = inv m c cfg0.N le_rfl from rfl, start_eq]; exact inv_any m c _ _)

end Cert.Scan

end
-- ==== Proof.KernelResult.lean ====
/- The kernel's two result arrays at the end of the launch. -/
module

public import proofs.«01_k».proof.Proof.KernelRun

@[expose] public section

set_option maxRecDepth 16384

noncomputable section

namespace Cert.Scan

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- A tile's entry is the whole result's at its place. -/
theorem tile_result (p : ℂ → ℝ) (t : Fin cfg0.N) (y : S256x512.Idx) (j : S2048x4096.Idx)
    (h0 : (j 0).val = (7 - t.val % 8) * 256 + (y 0).val) (h1 : (j 1).val = t.val / 8 * 512 + (y 1).val) :
    tileOf p (tileG m c t.val) y = result (arrLr m c) (arrLi m c) (arrDr m c) (arrDi m c) p j := by
  unfold result tileOf tileG
  rw [h0, h1, Nat.mul_comm 256, Nat.mul_comm 512]

theorem final_re : (dats m 0 c).arrAt 4 cfg0.N = result (arrLr m c) (arrLi m c) (arrDr m c) (arrDi m c) Complex.re := by
  refine (dats m 0 c).arrAt_eq_of_covers 4 _ (by decide +kernel) fun t hf y => ?_
  blk_simp
  rw [after4]
  have h := (index_eq t).2.2.1
  refine tile_result m c _ t y _ ?_ ?_ <;> blk_simp <;> rw [h] <;> rfl

theorem final_im : (dats m 0 c).arrAt 5 cfg0.N = result (arrLr m c) (arrLi m c) (arrDr m c) (arrDi m c) Complex.im := by
  refine (dats m 0 c).arrAt_eq_of_covers 5 _ (by decide +kernel) fun t hf y => ?_
  blk_simp
  rw [after5]
  have h := (index_eq t).2.2.2
  refine tile_result m c _ t y _ ?_ ?_ <;> blk_simp <;> rw [h] <;> rfl

/-- From real entries the kernel ends with the recurrence's real and imaginary parts in its results, its arguments unchanged. -/
theorem kernel_value (hm : ∀ c, RealArgs m c) :
    θ_run defs (onTc (τ := τ) (main (F := Ideal))) ⟨m, fun _ => 0, ρ⟩ (fun r => ∀ c : Dev nD,
      r.2.mem ((c.tc : Thread nD τ).loc main_v1_0) = result (arrLr m c) (arrLi m c) (arrDr m c) (arrDi m c) Complex.re
      ∧ r.2.mem ((c.tc : Thread nD τ).loc main_v1_1) = result (arrLr m c) (arrLi m c) (arrDr m c) (arrDi m c) Complex.im
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := run_tiles m ρ hm
  refine (θ_run defs _ _).mono (fun r hr c => ?_) (θ_run_and h (frame_of m ρ (dats m) (A_eq m) h))
  exact ⟨((hr.1 c).1 4).trans (final_re m c), ((hr.1 c).1 5).trans (final_im m c), hr.2 c⟩

end Cert.Scan

end
-- ==== Proof.Reference.lean ====
/- The reference's host loop at real entries: after `n` trips its carries hold `conj λ * g` of the last row read and its result
   arrays the recurrence on the last `n` rows. -/
module

public import proofs.«01_k».proof.Proof.Spec
public import proofs.«01_k».proof.Proof.Gen.ReferenceIdeal.Run
public import Idealize.ShloMosaic.Lib.DynamicIndex
public import Idealize.ShloMosaic.Lib.WordCmp
public import Idealize.ShloMosaic.Lib.Pointwise.ShapeOps

@[expose] public section

set_option maxRecDepth 16384

noncomputable section

namespace Cert.Scan.Ref

open Idealize.ShloMosaic Idealize.ShloMosaic.TcCoe Idealize.ShloMosaic.StableHlo Idealize.SL.Sem
open Cert.ReferenceIdeal Cert.ReferenceIdeal.Gen Cert.ReferenceIdeal.Value

/-! ## One row read, one row written -/

/-- A row's number as the loop counts it. -/
abbrev starts (w : IVec S_ 32) : Fin 2 → ℤ := fun k =>
  ((![w, constantI S_ 32 0#32] : Fin 2 → (⟨S_, .i32⟩ : BufTy).Contents (Elt Ideal)) k (Shape.Idx.first h_S_)).toInt

theorem starts_eq {w : IVec S_ 32} {t : ℕ} (ht : t < 2048) (hw : w = fun _ => BitVec.ofNat 32 t) (a : Fin 2) :
    starts w a = ((![t, 0] : Fin 2 → ℕ) a : ℤ) := by
  subst hw
  match a with
  | ⟨0, _⟩ => exact toInt_ofNat_of_lt (by omega)
  | ⟨1, _⟩ => rfl

theorem fits {t : ℕ} (ht : t < 2048) : S2048x4096.Slices ![t, 0] S1x4096 :=
  ⟨rfl, fun a => by match a with | ⟨0, _⟩ => exact (by omega : t + 1 ≤ 2048) | ⟨1, _⟩ => exact le_rfl⟩

/-- Row `t` as a vector. -/
theorem read_row (X : FVec Ideal S2048x4096 .f32) {w : IVec S_ 32} {t : ℕ} (ht : t < 2048) (hw : w = fun _ => BitVec.ofNat 32 t) (l : Fin 4096) :
    shapeCast S4096 (Host.dynamicSlice S1x4096 X (starts w) sliceFits_S2048x4096_S1x4096) shapeCasts_S1x4096_S4096 (ix1 l)
      = X (ix2 ⟨t, ht⟩ l) := by
  rw [Host.dynamicSlice_eq_extractStridedSlice S1x4096 X _ ![t, 0] _ (fits ht) (starts_eq ht hw)]
  pointwise

/-- Writing row `t`. -/
theorem write_row (X : FVec Ideal S2048x4096 .f32) (v : FVec Ideal S4096 .f32) {w : IVec S_ 32} {t : ℕ} (ht : t < 2048)
    (hw : w = fun _ => BitVec.ofNat 32 t) (s : Fin 2048) (l : Fin 4096) :
    Host.dynamicUpdateSlice X (broadcastInDim S1x4096 ![1] bcast_S4096_S1x4096_1 v) (starts w) sliceFits_S2048x4096_S1x4096 (ix2 s l)
      = if s.val = t then v (ix1 l) else X (ix2 s l) := by
  rw [WordCmp.dynamicUpdateSlice_eq_update X _ _ _ ![t, 0] (fits ht) (starts_eq ht hw)]
  pointwise
  by_cases e : s.val = t
  · rw [dif_pos (by omega), if_pos e]
  · rw [dif_neg (by omega), if_neg e]

/-! ## The loop -/

/-- The buffers after `n` trips from arguments `ar`, `ai`, `dr`, `di`. -/
structure After (ar ai : FVec Ideal S1x4096 .f32) (dr di : FVec Ideal S2048x4096 .f32) (n : ℕ) (V : Valuation τ sig (Elt Ideal)) : Prop where
  ctr : (V (Proc.devRef .tc main_v10_6) : IVec S_ 32) = fun _ => BitVec.ofNat 32 n
  rowsRe : (V (Proc.devRef .tc main_v10_0) : FVec Ideal S2048x4096 .f32) = dr
  rowsIm : (V (Proc.devRef .tc main_v10_1) : FVec Ideal S2048x4096 .f32) = di
  lr : ∀ l : Fin 4096, (V (Proc.devRef .tc main_v10_2) : FVec Ideal S4096 .f32) (ix1 l) = ar (ix2 0 l)
  li : ∀ l : Fin 4096, (V (Proc.devRef .tc main_v10_3) : FVec Ideal S4096 .f32) (ix1 l) = ai (ix2 0 l)
  lr' : ∀ l : Fin 4096, (V (Proc.devRef .tc main_v10_4) : FVec Ideal S4096 .f32) (ix1 l) = ar (ix2 0 l)
  li' : ∀ l : Fin 4096, (V (Proc.devRef .tc main_v10_5) : FVec Ideal S4096 .f32) (ix1 l) = ai (ix2 0 l)
  re : ∀ l : Fin 4096, (V (Proc.devRef .tc main_v10_7) : FVec Ideal S4096 .f32) (ix1 l) = (((coef ar ai l * back ar ai dr di n l).re : ℝ) : EReal)
  im : ∀ l : Fin 4096, (V (Proc.devRef .tc main_v10_8) : FVec Ideal S4096 .f32) (ix1 l) = (((coef ar ai l * back ar ai dr di n l).im : ℝ) : EReal)
  outRe : ∀ (t : Fin 2048) (l : Fin 4096), 2048 ≤ t.val + n →
    (V (Proc.devRef .tc main_v10_9) : FVec Ideal S2048x4096 .f32) (ix2 t l) = (((grad ar ai dr di t l).re : ℝ) : EReal)
  outIm : ∀ (t : Fin 2048) (l : Fin 4096), 2048 ≤ t.val + n →
    (V (Proc.devRef .tc main_v10_10) : FVec Ideal S2048x4096 .f32) (ix2 t l) = (((grad ar ai dr di t l).im : ℝ) : EReal)

variable {ar ai : FVec Ideal S1x4096 .f32} {dr di : FVec Ideal S2048x4096 .f32} {n : ℕ} {V : Valuation τ sig (Elt Ideal)}

/-- The trip's row number in words. -/
theorem word_sub : ∀ n : Fin 2048, (2048#32 - BitVec.ofNat 32 n.val) - 1#32 = BitVec.ofNat 32 (2047 - n.val) := by decide +kernel

/-- The row a trip reads and writes. -/
theorem row_word (hn : n < 2048) (h : After ar ai dr di n V) :
    (res_main_while0b_v12 V : IVec S_ 32) = fun _ => BitVec.ofNat 32 (2047 - n) := by
  unfold res_main_while0b_v12
  rw [h.ctr]
  funext j
  exact word_sub ⟨n, hn⟩

/-- The sum of two vectors of real entries. -/
theorem sum_at {x y : FVec Ideal S4096 .f32} {j : S4096.Idx} {a b : ℝ} (hx : x j = (a : EReal)) (hy : y j = (b : EReal)) :
    addf x y j = ((b + a : ℝ) : EReal) := by
  have e : addf x y j = (x j + y j : EReal) := rfl
  rw [e, hx, hy, ← EReal.coe_add, add_comm]

/-- The row read on a trip, as a vector. -/
theorem row_re (hd : AllReal dr) (hn : n < 2048) (h : After ar ai dr di n V) (l : Fin 4096) :
    shapeCast S4096 (Host.dynamicSlice S1x4096 (V (Proc.devRef .tc main_v10_0) : FVec Ideal S2048x4096 .f32) (starts (res_main_while0b_v12 V))
      sliceFits_S2048x4096_S1x4096) shapeCasts_S1x4096_S4096 (ix1 l) = (((inp dr di (2047 - n) l).re : ℝ) : EReal) := by
  rw [h.rowsRe, read_row dr (w := res_main_while0b_v12 V) (t := 2047 - n) (by omega) (row_word hn h) l]
  exact (inp_re hd (di := di) ⟨2047 - n, by omega⟩ l).symm

theorem row_im (hd : AllReal di) (hn : n < 2048) (h : After ar ai dr di n V) (l : Fin 4096) :
    shapeCast S4096 (Host.dynamicSlice S1x4096 (V (Proc.devRef .tc main_v10_1) : FVec Ideal S2048x4096 .f32) (starts (res_main_while0b_v12 V))
      sliceFits_S2048x4096_S1x4096) shapeCasts_S1x4096_S4096 (ix1 l) = (((inp dr di (2047 - n) l).im : ℝ) : EReal) := by
  rw [h.rowsIm, read_row di (w := res_main_while0b_v12 V) (t := 2047 - n) (by omega) (row_word hn h) l]
  exact (inp_im hd (dr := dr) ⟨2047 - n, by omega⟩ l).symm

/-- The carried row joined with the row read. -/
theorem joined_re (hd : AllReal dr) (hn : n < 2048) (h : After ar ai dr di n V) (l : Fin 4096) :
    (res_main_while0b_v15 V : FVec Ideal S4096 .f32) (ix1 l) = (((back ar ai dr di (n + 1) l).re : ℝ) : EReal) :=
  sum_at (h.re l) (row_re hd hn h l)

theorem joined_im (hd : AllReal di) (hn : n < 2048) (h : After ar ai dr di n V) (l : Fin 4096) :
    (res_main_while0b_v16 V : FVec Ideal S4096 .f32) (ix1 l) = (((back ar ai dr di (n + 1) l).im : ℝ) : EReal) :=
  sum_at (h.im l) (row_im hd hn h l)

/-- A result array with its next row written. -/
theorem written {X : FVec Ideal S2048x4096 .f32} {v : FVec Ideal S4096 .f32} {w : IVec S_ 32} {p : ℂ → ℝ} (hn : n < 2048)
    (hw : w = fun _ => BitVec.ofNat 32 (2047 - n)) (hv : ∀ l : Fin 4096, v (ix1 l) = ((p (back ar ai dr di (n + 1) l) : ℝ) : EReal))
    (hX : ∀ (t : Fin 2048) (l : Fin 4096), 2048 ≤ t.val + n → X (ix2 t l) = ((p (grad ar ai dr di t l) : ℝ) : EReal))
    (t : Fin 2048) (l : Fin 4096) (ht : 2048 ≤ t.val + (n + 1)) :
    Host.dynamicUpdateSlice X (broadcastInDim S1x4096 ![1] bcast_S4096_S1x4096_1 v) (starts w) updateFits_S2048x4096_S1x4096 (ix2 t l)
      = ((p (grad ar ai dr di t l) : ℝ) : EReal) := by
  rw [write_row X v (by omega) hw t l]
  split
  · next e => rw [hv, e]; unfold grad; rw [show 2048 - (2047 - n) = n + 1 by omega]
  · next e => exact hX t l (by omega)

/-- The next carry's real part: `coef * g` from the arrays. -/
theorem next_re (hr : AllReal ar) (hi : AllReal ai) {x y u v : FVec Ideal S4096 .f32} {l : Fin 4096} {g : ℂ}
    (hx : x (ix1 l) = ai (ix2 0 l)) (hy : y (ix1 l) = ar (ix2 0 l)) (hu : u (ix1 l) = ((g.im : ℝ) : EReal)) (hv : v (ix1 l) = ((g.re : ℝ) : EReal)) :
    addf (mulf x u) (mulf y v) (ix1 l) = (((coef ar ai l * g).re : ℝ) : EReal) := by
  have e : addf (mulf x u) (mulf y v) (ix1 l) = (x (ix1 l) * u (ix1 l) + y (ix1 l) * v (ix1 l) : EReal) := rfl
  have ei : ai (ix2 0 l) = ((-(coef ar ai l).im : ℝ) : EReal) := by rw [EReal.coe_neg, coef_im hi, neg_neg]
  rw [e, hx, hy, hu, hv, ei, ← coef_re hr (ai := ai), Complex.mul_re]
  norm_cast
  ring

/-- The next carry's imaginary part. -/
theorem next_im (hr : AllReal ar) (hi : AllReal ai) {x y u v : FVec Ideal S4096 .f32} {l : Fin 4096} {g : ℂ}
    (hx : x (ix1 l) = ar (ix2 0 l)) (hy : y (ix1 l) = ai (ix2 0 l)) (hu : u (ix1 l) = ((g.im : ℝ) : EReal)) (hv : v (ix1 l) = ((g.re : ℝ) : EReal)) :
    addf (mulf x u) (mulf y (Host.negf v)) (ix1 l) = (((coef ar ai l * g).im : ℝ) : EReal) := by
  have e : addf (mulf x u) (mulf y (Host.negf v)) (ix1 l) = (x (ix1 l) * u (ix1 l) + y (ix1 l) * -v (ix1 l) : EReal) := rfl
  have ei : ai (ix2 0 l) = ((-(coef ar ai l).im : ℝ) : EReal) := by rw [EReal.coe_neg, coef_im hi, neg_neg]
  rw [e, hx, hy, hu, hv, ei, ← coef_re hr (ai := ai), Complex.mul_im]
  norm_cast
  ring

section Trip

variable (hlr : AllReal ar) (hli : AllReal ai) (hdr : AllReal dr) (hdi : AllReal di) (hn : n < 2048) (h : After ar ai dr di n V)

include h in
theorem step_ctr : (step_main_v10_6 V : IVec S_ 32) = fun _ => BitVec.ofNat 32 (n + 1) := by
  unfold step_main_v10_6
  rw [h.ctr]
  funext j
  exact (BitVec.ofNat_add ..).symm

include hlr hli hdr hdi hn h

theorem step_re (l : Fin 4096) :
    (step_main_v10_7 V : FVec Ideal S4096 .f32) (ix1 l) = (((coef ar ai l * back ar ai dr di (n + 1) l).re : ℝ) : EReal) := by
  unfold step_main_v10_7
  rw [id]
  exact next_re hlr hli (h.li' l) (h.lr l) (joined_im hdi hn h l) (joined_re hdr hn h l)

theorem step_im (l : Fin 4096) :
    (step_main_v10_8 V : FVec Ideal S4096 .f32) (ix1 l) = (((coef ar ai l * back ar ai dr di (n + 1) l).im : ℝ) : EReal) := by
  unfold step_main_v10_8
  rw [id]
  exact next_im hlr hli (h.lr' l) (h.li l) (joined_im hdi hn h l) (joined_re hdr hn h l)

omit hlr hli hdi in
theorem step_outRe (t : Fin 2048) (l : Fin 4096) (ht : 2048 ≤ t.val + (n + 1)) :
    (step_main_v10_9 V : FVec Ideal S2048x4096 .f32) (ix2 t l) = (((grad ar ai dr di t l).re : ℝ) : EReal) := by
  unfold step_main_v10_9
  rw [id]
  exact written (p := Complex.re) hn (row_word hn h) (joined_re hdr hn h) h.outRe t l ht

omit hlr hli hdr in
theorem step_outIm (t : Fin 2048) (l : Fin 4096) (ht : 2048 ≤ t.val + (n + 1)) :
    (step_main_v10_10 V : FVec Ideal S2048x4096 .f32) (ix2 t l) = (((grad ar ai dr di t l).im : ℝ) : EReal) := by
  unfold step_main_v10_10
  rw [id]
  exact written (p := Complex.im) hn (row_word hn h) (joined_im hdi hn h) h.outIm t l ht

/-- One trip. -/
theorem After.step : After ar ai dr di (n + 1) (STEP V) :=
  ⟨(STEP_main_v10_6 V).trans (step_ctr h), (STEP_main_v10_0 V).trans h.rowsRe, (STEP_main_v10_1 V).trans h.rowsIm,
    fun l => (congrFun (STEP_main_v10_2 V) _).trans (h.lr l), fun l => (congrFun (STEP_main_v10_3 V) _).trans (h.li l),
    fun l => (congrFun (STEP_main_v10_4 V) _).trans (h.lr' l), fun l => (congrFun (STEP_main_v10_5 V) _).trans (h.li' l),
    fun l => (congrFun (STEP_main_v10_7 V) _).trans (step_re hlr hli hdr hdi hn h l),
    fun l => (congrFun (STEP_main_v10_8 V) _).trans (step_im hlr hli hdr hdi hn h l),
    fun t l ht => (congrFun (STEP_main_v10_9 V) _).trans (step_outRe hdr hn h t l ht),
    fun t l ht => (congrFun (STEP_main_v10_10 V) _).trans (step_outIm hdi hn h t l ht)⟩

end Trip

/-- Any number of trips. -/
theorem After.iterate (hlr : AllReal ar) (hli : AllReal ai) (hdr : AllReal dr) (hdi : AllReal di) (h : After ar ai dr di 0 V) :
    ∀ n, n ≤ 2048 → After ar ai dr di n (STEP^[n] V)
  | 0, _ => h
  | n + 1, hn => by
    rw [Function.iterate_succ_apply']
    exact After.step hlr hli hdr hdi (by omega) (After.iterate hlr hli hdr hdi h n (by omega))

variable (m : (ℓ : Loc nD τ sig) → Buf (Elt Ideal) ℓ) (ρ : Dev nD → PrngReg) (c : Dev nD)

/-- The zero the host fills arrays with. -/
theorem zero_f32 : Ideal.ofBits .f32 0x00000000#32 = ((0 : ℝ) : EReal) := by
  simp [Ideal.ofBits, Ideal.ieee, -EReal.coe_mul]

/-- A one-row array as a vector. -/
theorem flat (X : FVec Ideal S1x4096 .f32) (l : Fin 4096) : shapeCast S4096 X shapeCasts_S1x4096_S4096 (ix1 l) = X (ix2 0 l) := by
  pointwise

/-- The loop's entry. -/
theorem entry : After (m ((c.tc : Thread nD τ).loc main_arg0)) (m ((c.tc : Thread nD τ).loc main_arg1)) (m ((c.tc : Thread nD τ).loc main_arg2))
    (m ((c.tc : Thread nD τ).loc main_arg3)) 0 (entryContents preI m c) := by
  constructor
  case ctr => exact ctr_entry m c
  case outRe => exact fun t l h => absurd t.isLt (by omega)
  case outIm => exact fun t l h => absurd t.isLt (by omega)
  all_goals simp only [entryContents, afterL_cons, afterL_nil]; after_reads_simp
  case rowsRe => rfl
  case rowsIm => rfl
  case lr => exact flat _
  case li => exact flat _
  case lr' => exact flat _
  case li' => exact flat _
  case re => intro l; refine zero_f32.trans ?_; simp [back]
  case im => intro l; refine zero_f32.trans ?_; simp [back]

/-- The reference at real entries: its results are the recurrence's real and imaginary parts, its arguments unchanged. -/
theorem value (hlr : ∀ c : Dev nD, AllReal (m ((c.tc : Thread nD τ).loc main_arg0) : FVec Ideal S1x4096 .f32))
    (hli : ∀ c : Dev nD, AllReal (m ((c.tc : Thread nD τ).loc main_arg1) : FVec Ideal S1x4096 .f32))
    (hdr : ∀ c : Dev nD, AllReal (m ((c.tc : Thread nD τ).loc main_arg2) : FVec Ideal S2048x4096 .f32))
    (hdi : ∀ c : Dev nD, AllReal (m ((c.tc : Thread nD τ).loc main_arg3) : FVec Ideal S2048x4096 .f32)) :
    θ_run (defs (F := Ideal)) (onTc (τ := τ) (main (F := Ideal))) ⟨m, fun _ => 0, ρ⟩ fun r => ∀ c : Dev nD,
      r.2.mem ((c.tc : Thread nD τ).loc main_v10_9) = result (m ((c.tc : Thread nD τ).loc main_arg0)) (m ((c.tc : Thread nD τ).loc main_arg1))
        (m ((c.tc : Thread nD τ).loc main_arg2)) (m ((c.tc : Thread nD τ).loc main_arg3)) Complex.re
      ∧ r.2.mem ((c.tc : Thread nD τ).loc main_v10_10) = result (m ((c.tc : Thread nD τ).loc main_arg0)) (m ((c.tc : Thread nD τ).loc main_arg1))
        (m ((c.tc : Thread nD τ).loc main_arg2)) (m ((c.tc : Thread nD τ).loc main_arg3)) Complex.im
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ?_) (run (F := Ideal) m ρ)
  have h := After.iterate (hlr c) (hli c) (hdr c) (hdi c) (entry m c) 2048 le_rfl
  refine ⟨(hr c).1.trans (funext fun j => ?_), (hr c).2.1.trans (funext fun j => ?_), (hr c).2.2⟩
  · exact (congrArg _ (eq_ix2 j)).trans (h.outRe (j 0) (j 1) (by omega))
  · exact (congrArg _ (eq_ix2 j)).trans (h.outIm (j 0) (j 1) (by omega))

end Cert.Scan.Ref

end
-- ==== Proof.Finite.lean ====
/- The precondition read back: every argument entry is a real number. -/
module

public import proofs.«01_k».proof.Defs
public import proofs.«01_k».proof.Proof.Spec
public import Idealize.ShloMosaic.Lib.ReduceAll
public import Idealize.ShloMosaic.Lib.Affine
public import Idealize.ShloMosaic.Lib.Pointwise.ShapeOps

@[expose] public section

noncomputable section

namespace Cert.Scan

open Idealize.ShloMosaic Idealize.ShloMosaic.TcCoe

/-- The predicate's shapes fit. -/
instance finiteFacts : Cert.Pre_finite.Facts := by
  constructor <;> decide

/-- The literal the entries are compared with. -/
theorem top_f32 : Ideal.ofBits .f32 0x7F800000#32 = ⊤ := by
  simp [Ideal.ofBits, Ideal.ieee, -EReal.coe_mul]

/-- An entry whose absolute value is below infinity is a real number. -/
theorem real_of_abs_lt {a : EReal} (h : Ideal.cmp .olt (max a (-a)) (Ideal.ofBits .f32 0x7F800000#32) = 1#1) :
    ((EReal.toReal a : ℝ) : EReal) = a := by
  rw [top_f32] at h
  have h' : max a (-a) < ⊤ := by
    by_contra hn
    simp [Ideal.cmp, hn] at h
  rw [max_lt_iff] at h'
  refine EReal.coe_toReal h'.1.ne fun e => ?_
  rw [e] at h'
  exact absurd h'.2 (by simp)

variable {s : Shape}

instance : Subsingleton Cert.Pre_finite.S_.Idx := ⟨fun a b => funext fun k => k.elim0⟩

/-- All entries of an array are real where the predicate's test of it is 1. -/
theorem allReal_of_test {X : FVec Ideal s .f32} {axes : List (Fin s.rank)} (h : s.ReducesTo axes Cert.Pre_finite.S_)
    (hb : Cert.Pre_finite.S_.BroadcastsInDim s (![] : Fin 0 → Fin s.rank)) (hu : 0 < Cert.Pre_finite.S_.numel) (j : Cert.Pre_finite.S_.Idx)
    (e : Host.reduce IntOp.andi (cmpf .olt (Host.absf X) (broadcastInDim s ![] hb (constant (F := Ideal) Cert.Pre_finite.S_ .f32 0x7F800000#32)))
      (constantI Cert.Pre_finite.S_ 1 1#1) h hu j = 1#1) : AllReal X := fun i =>
  real_of_abs_lt (Host.reduce_andi_all _ _ h hu j e i)

/-- The precondition: the four arrays hold real numbers. -/
theorem allReal_of_finite {ar ai : FVec Ideal Cert.Pre_finite.S1x4096 .f32} {dr di : FVec Ideal Cert.Pre_finite.S2048x4096 .f32}
    (h : Cert.Pre_finite.fn (F := Ideal) ar ai dr di = fun _ => 1#1) : (AllReal ar ∧ AllReal ai) ∧ AllReal dr ∧ AllReal di := by
  have h0 := congrFun h (fun a => a.elim0)
  unfold Cert.Pre_finite.fn Cert.Pre_finite.fn_part1 at h0
  dsimp only at h0
  obtain ⟨h1, hdi⟩ := IntOp.andi_eq_one.1 h0
  obtain ⟨h2, hdr⟩ := IntOp.andi_eq_one.1 h1
  obtain ⟨har, hai⟩ := IntOp.andi_eq_one.1 h2
  exact ⟨⟨allReal_of_test _ _ _ _ har, allReal_of_test _ _ _ _ hai⟩, allReal_of_test _ _ _ _ hdr, allReal_of_test _ _ _ _ hdi⟩

end Cert.Scan

end
-- ==== Proof.lean ====
/- The claims. Of the recurrence's gradient: both programs' frames, the kernel's value at real entries and the reference's,
   met in the recurrence of Proof/Spec.lean. Of each product, of the norm, of the loss and of each
   update of the optimiser: the frames and the value, from its own module. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.UpWeight
public import proofs.«01_k».proof.Proof.DownWeight
public import proofs.«01_k».proof.Proof.UpInput
public import proofs.«01_k».proof.Proof.DownInput
public import proofs.«01_k».proof.Proof.Up
public import proofs.«01_k».proof.Proof.Down
public import proofs.«01_k».proof.Proof.ProjWeight
public import proofs.«01_k».proof.Proof.ProjInput
public import proofs.«01_k».proof.Proof.Proj
public import proofs.«01_k».proof.Proof.MixWeight
public import proofs.«01_k».proof.Proof.MixInput
public import proofs.«01_k».proof.Proof.Mix
public import proofs.«01_k».proof.Proof.UpdateIn
public import proofs.«01_k».proof.Proof.UpdateOut
public import proofs.«01_k».proof.Proof.UpdateUp
public import proofs.«01_k».proof.Proof.UpdateDown
public import proofs.«01_k».proof.Proof.UpdateGate
public import proofs.«01_k».proof.Proof.UpdateModulation
public import proofs.«01_k».proof.Proof.UpdateLora
public import proofs.«01_k».proof.Proof.UpdateSmall
public import proofs.«01_k».proof.Proof.NormGrad
public import proofs.«01_k».proof.Proof.UpdateLogStep
public import proofs.«01_k».proof.Proof.Loss
public import proofs.«01_k».proof.Proof.Unchanged
public import proofs.«01_k».proof.Proof.KernelResult
public import proofs.«01_k».proof.Proof.Reference
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The idealized kernel leaves its arguments and has its semaphores at zero. -/
theorem frame_ideal : Cert.quiescent_KernelIdeal := fun m ρ _ => Cert.Unchanged.idealized m ρ

/-- The reference leaves its arguments and has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel's results are the reference's. -/
theorem values : Cert.algebraic_KernelIdeal_ReferenceIdeal_pre_finite := by
  intro m ρ m' ρ' hpre hagree
  have hreal := fun c => Cert.Scan.allReal_of_finite (hpre c)
  refine ⟨_, _, Cert.Scan.kernel_value m ρ fun c => ⟨(hreal c).1.1, (hreal c).1.2, (hreal c).2.1, (hreal c).2.2⟩, ?_⟩
  have h := Cert.Scan.Ref.value m' ρ' (fun c => (hagree c).1 ▸ (hreal c).1.1) (fun c => (hagree c).2.1 ▸ (hreal c).1.2)
    (fun c => (hagree c).2.2.1 ▸ (hreal c).2.1) (fun c => (hagree c).2.2.2 ▸ (hreal c).2.2)
  refine (θ_run _ _ _).mono (fun r hr c => ⟨(hr c).1.trans ?_, (hr c).2.1.trans ?_, (hr c).2.2⟩) h
  all_goals rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Kernel13.Gen.facts, Cert.Kernel13Ideal.Gen.facts,
    Cert.Reference13Ideal.Gen.facts, Cert.Kernel14.Gen.facts, Cert.Kernel14Ideal.Gen.facts,
    Cert.Reference14Ideal.Gen.facts, Cert.Kernel15.Gen.facts, Cert.Kernel15Ideal.Gen.facts,
    Cert.Reference15Ideal.Gen.facts, Cert.Kernel16.Gen.facts, Cert.Kernel16Ideal.Gen.facts,
    Cert.Reference16Ideal.Gen.facts, Cert.Kernel17.Gen.facts, Cert.Kernel17Ideal.Gen.facts,
    Cert.Reference17Ideal.Gen.facts, Cert.Kernel18.Gen.facts, Cert.Kernel18Ideal.Gen.facts,
    Cert.Reference18Ideal.Gen.facts, Cert.Kernel19.Gen.facts, Cert.Kernel19Ideal.Gen.facts,
    Cert.Reference19Ideal.Gen.facts, Cert.Kernel20.Gen.facts, Cert.Kernel20Ideal.Gen.facts,
    Cert.Reference20Ideal.Gen.facts, Cert.Kernel21.Gen.facts, Cert.Kernel21Ideal.Gen.facts,
    Cert.Reference21Ideal.Gen.facts, Cert.Kernel22.Gen.facts, Cert.Kernel22Ideal.Gen.facts,
    Cert.Reference22Ideal.Gen.facts, Cert.Kernel23.Gen.facts, Cert.Kernel23Ideal.Gen.facts,
    Cert.Reference23Ideal.Gen.facts, Cert.Kernel24.Gen.facts, Cert.Kernel24Ideal.Gen.facts,
    Cert.Reference24Ideal.Gen.facts, Cert.Scan.finiteFacts,
    fun m ρ _ => Cert.Unchanged.kernel m ρ, frame_ideal, fun m ρ _ => frame_ideal m ρ trivial,
    frame_reference, fun m ρ _ => frame_reference m ρ trivial,
    fun m ρ _ => Cert.Kernel2.Gen.frame m ρ, fun m ρ _ => Cert.Kernel2Ideal.Gen.frame m ρ, Cert.UpWeight.frame_reference,
    fun m ρ _ => Cert.Kernel3.Gen.frame m ρ, fun m ρ _ => Cert.Kernel3Ideal.Gen.frame m ρ, Cert.DownWeight.frame_reference,
    fun m ρ _ => Cert.Kernel4.Gen.frame m ρ, fun m ρ _ => Cert.Kernel4Ideal.Gen.frame m ρ, Cert.UpInput.frame_reference,
    fun m ρ _ => Cert.Kernel5.Gen.frame m ρ, fun m ρ _ => Cert.Kernel5Ideal.Gen.frame m ρ, Cert.DownInput.frame_reference,
    fun m ρ _ => Cert.Kernel6.Gen.frame m ρ, fun m ρ _ => Cert.Kernel6Ideal.Gen.frame m ρ, Cert.Up.frame_reference,
    fun m ρ _ => Cert.Kernel7.Gen.frame m ρ, fun m ρ _ => Cert.Kernel7Ideal.Gen.frame m ρ, Cert.Down.frame_reference,
    fun m ρ _ => Cert.Kernel8.Gen.frame m ρ, fun m ρ _ => Cert.Kernel8Ideal.Gen.frame m ρ, Cert.ProjWeight.frame_reference,
    fun m ρ _ => Cert.Kernel9.Gen.frame m ρ, fun m ρ _ => Cert.Kernel9Ideal.Gen.frame m ρ, Cert.ProjInput.frame_reference,
    fun m ρ _ => Cert.Kernel10.Gen.frame m ρ, fun m ρ _ => Cert.Kernel10Ideal.Gen.frame m ρ, Cert.Proj.frame_reference,
    fun m ρ _ => Cert.Kernel11.Gen.frame m ρ, fun m ρ _ => Cert.Kernel11Ideal.Gen.frame m ρ, Cert.MixWeight.frame_reference,
    fun m ρ _ => Cert.Kernel12.Gen.frame m ρ, fun m ρ _ => Cert.Kernel12Ideal.Gen.frame m ρ, Cert.MixInput.frame_reference,
    fun m ρ _ => Cert.Kernel13.Gen.frame m ρ, fun m ρ _ => Cert.Kernel13Ideal.Gen.frame m ρ, Cert.Mix.frame_reference,
    fun m ρ _ => Cert.Kernel14.Gen.frame m ρ, fun m ρ _ => Cert.Kernel14Ideal.Gen.frame m ρ, Cert.UpdateIn.frame_reference,
    fun m ρ _ => Cert.Kernel15.Gen.frame m ρ, fun m ρ _ => Cert.Kernel15Ideal.Gen.frame m ρ, Cert.UpdateOut.frame_reference,
    fun m ρ _ => Cert.Kernel16.Gen.frame m ρ, fun m ρ _ => Cert.Kernel16Ideal.Gen.frame m ρ, Cert.UpdateUp.frame_reference,
    fun m ρ _ => Cert.Kernel17.Gen.frame m ρ, fun m ρ _ => Cert.Kernel17Ideal.Gen.frame m ρ, Cert.UpdateDown.frame_reference,
    fun m ρ _ => Cert.Kernel18.Gen.frame m ρ, fun m ρ _ => Cert.Kernel18Ideal.Gen.frame m ρ, Cert.UpdateGate.frame_reference,
    fun m ρ _ => Cert.Kernel19.Gen.frame m ρ, fun m ρ _ => Cert.Kernel19Ideal.Gen.frame m ρ, Cert.UpdateModulation.frame_reference,
    fun m ρ _ => Cert.Kernel20.Gen.frame m ρ, fun m ρ _ => Cert.Kernel20Ideal.Gen.frame m ρ, Cert.UpdateLora.frame_reference,
    fun m ρ _ => Cert.Kernel21.Gen.frame m ρ, fun m ρ _ => Cert.Kernel21Ideal.Gen.frame m ρ, Cert.UpdateSmall.frame_reference,
    fun m ρ _ => Cert.Kernel22.Gen.frame m ρ, fun m ρ _ => Cert.Kernel22Ideal.Gen.frame m ρ, Cert.NormGrad.frame_reference,
    fun m ρ _ => Cert.Kernel23.Gen.frame m ρ, fun m ρ _ => Cert.Kernel23Ideal.Gen.frame m ρ, Cert.UpdateLogStep.frame_reference,
    fun m ρ _ => Cert.Kernel24.Gen.frame m ρ, fun m ρ _ => Cert.Kernel24Ideal.Gen.frame m ρ, Cert.Loss.frame_reference,
    trivial, values, trivial, Cert.UpWeight.values, trivial, Cert.DownWeight.values, trivial, Cert.UpInput.values,
    trivial, Cert.DownInput.values, trivial, Cert.Up.values, trivial, Cert.Down.values, trivial,
    Cert.ProjWeight.values, trivial, Cert.ProjInput.values, trivial, Cert.Proj.values, trivial, Cert.MixWeight.values,
    trivial, Cert.MixInput.values, trivial, Cert.Mix.values, Cert.UpdateIn.named, Cert.UpdateIn.values,
    Cert.UpdateOut.named, Cert.UpdateOut.values, Cert.UpdateUp.named, Cert.UpdateUp.values, Cert.UpdateDown.named,
    Cert.UpdateDown.values, Cert.UpdateGate.named, Cert.UpdateGate.values, Cert.UpdateModulation.named,
    Cert.UpdateModulation.values, Cert.UpdateLora.named, Cert.UpdateLora.values, Cert.UpdateSmall.named,
    Cert.UpdateSmall.values, trivial, Cert.NormGrad.values, Cert.UpdateLogStep.named, Cert.UpdateLogStep.values,
    trivial, Cert.Loss.values⟩

end Cert.Proof

end
